-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x64 : Shape := ⟨2, ![4096, 64]⟩
abbrev S1 : Shape := ⟨1, ![1]⟩
abbrev S32x34 : Shape := ⟨2, ![32, 34]⟩
abbrev S_ : Shape := ⟨0, ![]⟩
abbrev S1x34 : Shape := ⟨2, ![1, 34]⟩
abbrev S34 : Shape := ⟨1, ![34]⟩
abbrev S2 : Shape := ⟨1, ![2]⟩
abbrev S16 : Shape := ⟨1, ![16]⟩
abbrev S17x128x4096 : Shape := ⟨3, ![17, 128, 4096]⟩
abbrev S32 : Shape := ⟨1, ![32]⟩
abbrev S1x128x4096 : Shape := ⟨3, ![1, 128, 4096]⟩
abbrev S1x64x4096 : Shape := ⟨3, ![1, 64, 4096]⟩
abbrev S64x4096 : Shape := ⟨2, ![64, 4096]⟩
abbrev S128x64 : Shape := ⟨2, ![128, 64]⟩
abbrev S64x64 : Shape := ⟨2, ![64, 64]⟩

abbrev nBuf : Space → Nat
  | .hbm => 30
  | .vmem => 6
  | .smem => 5
  | _ => 0

abbrev bufTy : (tb : Table) → Fin (tcTables nBuf tb) → BufTy
  | .hbm, ⟨0, _⟩ => ⟨S128x4096, .fp8e4m3⟩
  | .hbm, ⟨1, _⟩ => ⟨S4096x64, .fp8e5m2⟩
  | .hbm, ⟨2, _⟩ => ⟨S1, .f32⟩
  | .hbm, ⟨3, _⟩ => ⟨S1, .f32⟩
  | .hbm, ⟨4, _⟩ => ⟨S32x34, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1x34, .i32⟩
  | .hbm, ⟨25, _⟩ => ⟨S34, .i32⟩
  | .hbm, ⟨26, _⟩ => ⟨S2, .i32⟩
  | .hbm, ⟨27, _⟩ => ⟨S16, .i32⟩
  | .hbm, ⟨28, _⟩ => ⟨S16, .i32⟩
  | .hbm, ⟨29, _⟩ => ⟨S4096x64, .f32⟩
  | .local _ .vmem, ⟨0, _⟩ => ⟨S128x4096, .fp8e4m3⟩
  | .local _ .vmem, ⟨1, _⟩ => ⟨S4096x64, .fp8e5m2⟩
  | .local _ .vmem, ⟨2, _⟩ => ⟨S4096x64, .f32⟩
  | .local _ .vmem, ⟨3, _⟩ => ⟨S17x128x4096, .fp8e4m3⟩
  | .local _ .vmem, ⟨4, _⟩ => ⟨S17x128x4096, .fp8e4m3⟩
  | .local _ .vmem, ⟨5, _⟩ => ⟨S4096x64, .bf16⟩
  | .local _ .smem, ⟨0, _⟩ => ⟨S1, .f32⟩
  | .local _ .smem, ⟨1, _⟩ => ⟨S1, .f32⟩
  | .local _ .smem, ⟨2, _⟩ => ⟨S2, .i32⟩
  | .local _ .smem, ⟨3, _⟩ => ⟨S16, .i32⟩
  | .local _ .smem, ⟨4, _⟩ => ⟨S16, .i32⟩
  | _, _ => ⟨S128x4096, .fp8e4m3⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_2 : Ref sig .tc := ⟨.hbm, 11, rfl⟩
abbrev main_v5 : Ref sig .tc := ⟨.hbm, 12, rfl⟩
abbrev main_c_3 : Ref sig .tc := ⟨.hbm, 13, rfl⟩
abbrev main_v6 : Ref sig .tc := ⟨.hbm, 14, rfl⟩
abbrev main_v7 : Ref sig .tc := ⟨.hbm, 15, rfl⟩
abbrev main_c_4 : Ref sig .tc := ⟨.hbm, 16, rfl⟩
abbrev main_c_5 : Ref sig .tc := ⟨.hbm, 17, rfl⟩
abbrev main_v8 : Ref sig .tc := ⟨.hbm, 18, rfl⟩
abbrev main_c_6 : Ref sig .tc := ⟨.hbm, 19, rfl⟩
abbrev main_c_7 : Ref sig .tc := ⟨.hbm, 20, rfl⟩
abbrev main_v9 : Ref sig .tc := ⟨.hbm, 21, rfl⟩
abbrev main_c_8 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg7_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_stg6_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_5 : BitVec 32 := 1#32
  let v8 : BitVec 32 := Scalar.muli v1 c1_i32_5
  let v9 : BitVec 32 := Scalar.addi c0_i32 v8
  v9.toNat

def k0_dev2 (v0 : BitVec 32) : Nat :=
  let c0_i32_8 : BitVec 32 := 0#32
  let c1_i32_7 : BitVec 32 := 1#32
  let v10 : BitVec 32 := Scalar.muli v0 c1_i32_7
  let v11 : BitVec 32 := Scalar.addi c0_i32_8 v10
  v11.toNat

def k0_dev3 (v0 : BitVec 32) : Nat :=
  let c0_i32_16 : BitVec 32 := 0#32
  let c1_i32_15 : BitVec 32 := 1#32
  let v15 : BitVec 32 := Scalar.muli v0 c1_i32_15
  let v16 : BitVec 32 := Scalar.addi c0_i32_16 v15
  v16.toNat
def k0_dev4 (v0 : BitVec 32) : Nat :=
  let c0_i32_26 : BitVec 32 := 0#32
  let c1_i32_25 : BitVec 32 := 1#32
  let v25 : BitVec 32 := Scalar.muli v0 c1_i32_25
  let v26 : BitVec 32 := Scalar.addi c0_i32_26 v25
  v26.toNat
def k0_dev5 (v1 : BitVec 32) : Nat :=
  let c0_i32_35 : BitVec 32 := 0#32
  let c1_i32_34 : BitVec 32 := 1#32
  let v35 : BitVec 32 := Scalar.muli v1 c1_i32_34
  let v36 : BitVec 32 := Scalar.addi c0_i32_35 v35
  v36.toNat
def k0_dev6 (v1 : BitVec 32) : Nat :=
  let c0_i32_45 : BitVec 32 := 0#32
  let c1_i32_44 : BitVec 32 := 1#32
  let v45 : BitVec 32 := Scalar.muli v1 c1_i32_44
  let v46 : BitVec 32 := Scalar.addi c0_i32_45 v45
  v46.toNat
def k0_off1 (d61 : Dev nD) : Fin 2 → Nat :=
  let v61 : BitVec 32 := Dev.word d61
  let c1_i32_54 : BitVec 32 := 1#32
  let v62 : BitVec 32 := Scalar.divsi v61 c1_i32_54
  let c32_i32 : BitVec 32 := 32#32
  let v63 : BitVec 32 := Scalar.remsi v62 c32_i32
  let c128_i32 : BitVec 32 := 128#32
  let v71 : BitVec 32 := Scalar.muli v63 c128_i32
  let c0_i32_59 : BitVec 32 := 0#32
  let v72 : BitVec 32 := Scalar.addi v71 c0_i32_59
  let v73 : Index := Scalar.indexCast v72
  let c0_60 : Index := 0#32
  ![v73.toNat, 0]
def k0_dev7 (v0 : BitVec 32) : Nat :=
  let c0_i32_76 : BitVec 32 := 0#32
  let c1_i32_75 : BitVec 32 := 1#32
  let v83 : BitVec 32 := Scalar.muli v0 c1_i32_75
  let v84 : BitVec 32 := Scalar.addi c0_i32_76 v83
  v84.toNat
def k0_dev8 (v1 : BitVec 32) : Nat :=
  let c0_i32_96 : BitVec 32 := 0#32
  let c1_i32_95 : BitVec 32 := 1#32
  let v101 : BitVec 32 := Scalar.muli v1 c1_i32_95
  let v102 : BitVec 32 := Scalar.addi c0_i32_96 v101
  v102.toNat
def k0_dev9 (v0 : BitVec 32) : Nat :=
  let c0_i32_115 : BitVec 32 := 0#32
  let c1_i32_114 : BitVec 32 := 1#32
  let v119 : BitVec 32 := Scalar.muli v0 c1_i32_114
  let v120 : BitVec 32 := Scalar.addi c0_i32_115 v119
  v120.toNat
def k0_dev10 (v1 : BitVec 32) : Nat :=
  let c0_i32_135 : BitVec 32 := 0#32
  let c1_i32_134 : BitVec 32 := 1#32
  let v137 : BitVec 32 := Scalar.muli v1 c1_i32_134
  let v138 : BitVec 32 := Scalar.addi c0_i32_135 v137
  v138.toNat
def k0_off2 (v147 : BitVec 32) : Fin 2 → Nat :=
  let c128_i32_149 : BitVec 32 := 128#32
  let v156 : BitVec 32 := Scalar.muli v147 c128_i32_149
  let c0_i32_150 : BitVec 32 := 0#32
  let v157 : BitVec 32 := Scalar.addi v156 c0_i32_150
  let v158 : Index := Scalar.indexCast v157
  let c0_151 : Index := 0#32
  ![v158.toNat, 0]

def k0_chk3 (v147 : BitVec 32) : Prop :=
  (∀ a, (k0_off2 v147) a + S128x64.size a ≤ S4096x64.size a)
theorem k0_off2_inb : ∀ (v147 : BitVec 32) (k0_hw3 : k0_chk3 v147), ∀ a, (k0_off2 v147) a + S128x64.size a ≤ S4096x64.size a := fun v147 k0_hw3 => k0_hw3

def k0_off3 (v160 : BitVec 32) : Fin 2 → Nat :=
  let c128_i32_161 : BitVec 32 := 128#32
  let v169 : BitVec 32 := Scalar.muli v160 c128_i32_161
  let c0_i32_162 : BitVec 32 := 0#32
  let v170 : BitVec 32 := Scalar.addi v169 c0_i32_162
  let v171 : Index := Scalar.indexCast v170
  let c0_163 : Index := 0#32
  ![v171.toNat, 0]

def k0_chk4 (v160 : BitVec 32) : Prop :=
  (∀ a, (k0_off3 v160) a + S128x64.size a ≤ S4096x64.size a)
theorem k0_off3_inb : ∀ (v160 : BitVec 32) (k0_hw4 : k0_chk4 v160), ∀ a, (k0_off3 v160) a + S128x64.size a ≤ S4096x64.size a := fun v160 k0_hw4 => k0_hw4

def k0_dev11 (v0 : BitVec 32) : Nat :=
  let c0_i32_214 : BitVec 32 := 0#32
  let c1_i32_213 : BitVec 32 := 1#32
  let v205 : BitVec 32 := Scalar.muli v0 c1_i32_213
  let v206 : BitVec 32 := Scalar.addi c0_i32_214 v205
  v206.toNat
def k0_dev12 (v1 : BitVec 32) : Nat :=
  let c0_i32_234 : BitVec 32 := 0#32
  let c1_i32_233 : BitVec 32 := 1#32
  let v223 : BitVec 32 := Scalar.muli v1 c1_i32_233
  let v224 : BitVec 32 := Scalar.addi c0_i32_234 v223
  v224.toNat
def k0_dev13 (v0 : BitVec 32) : Nat :=
  let c0_i32_253 : BitVec 32 := 0#32
  let c1_i32_252 : BitVec 32 := 1#32
  let v241 : BitVec 32 := Scalar.muli v0 c1_i32_252
  let v242 : BitVec 32 := Scalar.addi c0_i32_253 v241
  v242.toNat
def k0_dev14 (v1 : BitVec 32) : Nat :=
  let c0_i32_273 : BitVec 32 := 0#32
  let c1_i32_272 : BitVec 32 := 1#32
  let v259 : BitVec 32 := Scalar.muli v1 c1_i32_272
  let v260 : BitVec 32 := Scalar.addi c0_i32_273 v259
  v260.toNat
def k0_off4 (v269 : BitVec 32) : Fin 2 → Nat :=
  let c128_i32_287 : BitVec 32 := 128#32
  let v278 : BitVec 32 := Scalar.muli v269 c128_i32_287
  let c0_i32_288 : BitVec 32 := 0#32
  let v279 : BitVec 32 := Scalar.addi v278 c0_i32_288
  let v280 : Index := Scalar.indexCast v279
  let c0_289 : Index := 0#32
  ![v280.toNat, 0]

def k0_chk5 (v269 : BitVec 32) : Prop :=
  (∀ a, (k0_off4 v269) a + S128x64.size a ≤ S4096x64.size a)
theorem k0_off4_inb : ∀ (v269 : BitVec 32) (k0_hw5 : k0_chk5 v269), ∀ a, (k0_off4 v269) a + S128x64.size a ≤ S4096x64.size a := fun v269 k0_hw5 => k0_hw5

def k0_off5 (v282 : BitVec 32) : Fin 2 → Nat :=
  let c128_i32_299 : BitVec 32 := 128#32
  let v291 : BitVec 32 := Scalar.muli v282 c128_i32_299
  let c0_i32_300 : BitVec 32 := 0#32
  let v292 : BitVec 32 := Scalar.addi v291 c0_i32_300
  let v293 : Index := Scalar.indexCast v292
  let c0_301 : Index := 0#32
  ![v293.toNat, 0]

def k0_chk6 (v282 : BitVec 32) : Prop :=
  (∀ a, (k0_off5 v282) a + S128x64.size a ≤ S4096x64.size a)
theorem k0_off5_inb : ∀ (v282 : BitVec 32) (k0_hw6 : k0_chk6 v282), ∀ a, (k0_off5 v282) a + S128x64.size a ≤ S4096x64.size a := fun v282 k0_hw6 => k0_hw6

def k0_dev15 (v0 : BitVec 32) : Nat :=
  let c0_i32_352 : BitVec 32 := 0#32
  let c1_i32_351 : BitVec 32 := 1#32
  let v327 : BitVec 32 := Scalar.muli v0 c1_i32_351
  let v328 : BitVec 32 := Scalar.addi c0_i32_352 v327
  v328.toNat
def k0_dev16 (v1 : BitVec 32) : Nat :=
  let c0_i32_372 : BitVec 32 := 0#32
  let c1_i32_371 : BitVec 32 := 1#32
  let v345 : BitVec 32 := Scalar.muli v1 c1_i32_371
  let v346 : BitVec 32 := Scalar.addi c0_i32_372 v345
  v346.toNat
def k0_dev17 (v0 : BitVec 32) : Nat :=
  let c0_i32_391 : BitVec 32 := 0#32
  let c1_i32_390 : BitVec 32 := 1#32
  let v363 : BitVec 32 := Scalar.muli v0 c1_i32_390
  let v364 : BitVec 32 := Scalar.addi c0_i32_391 v363
  v364.toNat
def k0_dev18 (v1 : BitVec 32) : Nat :=
  let c0_i32_411 : BitVec 32 := 0#32
  let c1_i32_410 : BitVec 32 := 1#32
  let v381 : BitVec 32 := Scalar.muli v1 c1_i32_410
  let v382 : BitVec 32 := Scalar.addi c0_i32_411 v381
  v382.toNat
def k0_off6 (v391 : BitVec 32) : Fin 2 → Nat :=
  let c128_i32_424 : BitVec 32 := 128#32
  let v400 : BitVec 32 := Scalar.muli v391 c128_i32_424
  let c0_i32_425 : BitVec 32 := 0#32
  let v401 : BitVec 32 := Scalar.addi v400 c0_i32_425
  let v402 : Index := Scalar.indexCast v401
  let c0_426 : Index := 0#32
  ![v402.toNat, 0]

def k0_chk7 (v391 : BitVec 32) : Prop :=
  (∀ a, (k0_off6 v391) a + S128x64.size a ≤ S4096x64.size a)
theorem k0_off6_inb : ∀ (v391 : BitVec 32) (k0_hw7 : k0_chk7 v391), ∀ a, (k0_off6 v391) a + S128x64.size a ≤ S4096x64.size a := fun v391 k0_hw7 => k0_hw7

def k0_off7 (v404 : BitVec 32) : Fin 2 → Nat :=
  let c128_i32_436 : BitVec 32 := 128#32
  let v413 : BitVec 32 := Scalar.muli v404 c128_i32_436
  let c0_i32_437 : BitVec 32 := 0#32
  let v414 : BitVec 32 := Scalar.addi v413 c0_i32_437
  let v415 : Index := Scalar.indexCast v414
  let c0_438 : Index := 0#32
  ![v415.toNat, 0]

def k0_chk8 (v404 : BitVec 32) : Prop :=
  (∀ a, (k0_off7 v404) a + S128x64.size a ≤ S4096x64.size a)
theorem k0_off7_inb : ∀ (v404 : BitVec 32) (k0_hw8 : k0_chk8 v404), ∀ a, (k0_off7 v404) a + S128x64.size a ≤ S4096x64.size a := fun v404 k0_hw8 => k0_hw8

def k0_dev19 (v0 : BitVec 32) : Nat :=
  let c0_i32_489 : BitVec 32 := 0#32
  let c1_i32_488 : BitVec 32 := 1#32
  let v449 : BitVec 32 := Scalar.muli v0 c1_i32_488
  let v450 : BitVec 32 := Scalar.addi c0_i32_489 v449
  v450.toNat
def k0_dev20 (v1 : BitVec 32) : Nat :=
  let c0_i32_509 : BitVec 32 := 0#32
  let c1_i32_508 : BitVec 32 := 1#32
  let v467 : BitVec 32 := Scalar.muli v1 c1_i32_508
  let v468 : BitVec 32 := Scalar.addi c0_i32_509 v467
  v468.toNat
def k0_dev21 (v0 : BitVec 32) : Nat :=
  let c0_i32_528 : BitVec 32 := 0#32
  let c1_i32_527 : BitVec 32 := 1#32
  let v485 : BitVec 32 := Scalar.muli v0 c1_i32_527
  let v486 : BitVec 32 := Scalar.addi c0_i32_528 v485
  v486.toNat
def k0_dev22 (v1 : BitVec 32) : Nat :=
  let c0_i32_548 : BitVec 32 := 0#32
  let c1_i32_547 : BitVec 32 := 1#32
  let v503 : BitVec 32 := Scalar.muli v1 c1_i32_547
  let v504 : BitVec 32 := Scalar.addi c0_i32_548 v503
  v504.toNat
def k0_off8 (v513 : BitVec 32) : Fin 2 → Nat :=
  let c128_i32_561 : BitVec 32 := 128#32
  let v522 : BitVec 32 := Scalar.muli v513 c128_i32_561
  let c0_i32_562 : BitVec 32 := 0#32
  let v523 : BitVec 32 := Scalar.addi v522 c0_i32_562
  let v524 : Index := Scalar.indexCast v523
  let c0_563 : Index := 0#32
  ![v524.toNat, 0]

def k0_chk9 (v513 : BitVec 32) : Prop :=
  (∀ a, (k0_off8 v513) a + S128x64.size a ≤ S4096x64.size a)
theorem k0_off8_inb : ∀ (v513 : BitVec 32) (k0_hw9 : k0_chk9 v513), ∀ a, (k0_off8 v513) a + S128x64.size a ≤ S4096x64.size a := fun v513 k0_hw9 => k0_hw9

def k0_off9 (v526 : BitVec 32) : Fin 2 → Nat :=
  let c128_i32_573 : BitVec 32 := 128#32
  let v535 : BitVec 32 := Scalar.muli v526 c128_i32_573
  let c0_i32_574 : BitVec 32 := 0#32
  let v536 : BitVec 32 := Scalar.addi v535 c0_i32_574
  let v537 : Index := Scalar.indexCast v536
  let c0_575 : Index := 0#32
  ![v537.toNat, 0]

def k0_chk10 (v526 : BitVec 32) : Prop :=
  (∀ a, (k0_off9 v526) a + S128x64.size a ≤ S4096x64.size a)
theorem k0_off9_inb : ∀ (v526 : BitVec 32) (k0_hw10 : k0_chk10 v526), ∀ a, (k0_off9 v526) a + S128x64.size a ≤ S4096x64.size a := fun v526 k0_hw10 => k0_hw10

def k0_dev23 (v0 : BitVec 32) : Nat :=
  let c0_i32_626 : BitVec 32 := 0#32
  let c1_i32_625 : BitVec 32 := 1#32
  let v571 : BitVec 32 := Scalar.muli v0 c1_i32_625
  let v572 : BitVec 32 := Scalar.addi c0_i32_626 v571
  v572.toNat
def k0_dev24 (v1 : BitVec 32) : Nat :=
  let c0_i32_646 : BitVec 32 := 0#32
  let c1_i32_645 : BitVec 32 := 1#32
  let v589 : BitVec 32 := Scalar.muli v1 c1_i32_645
  let v590 : BitVec 32 := Scalar.addi c0_i32_646 v589
  v590.toNat
def k0_dev25 (v0 : BitVec 32) : Nat :=
  let c0_i32_665 : BitVec 32 := 0#32
  let c1_i32_664 : BitVec 32 := 1#32
  let v607 : BitVec 32 := Scalar.muli v0 c1_i32_664
  let v608 : BitVec 32 := Scalar.addi c0_i32_665 v607
  v608.toNat
def k0_dev26 (v1 : BitVec 32) : Nat :=
  let c0_i32_685 : BitVec 32 := 0#32
  let c1_i32_684 : BitVec 32 := 1#32
  let v625 : BitVec 32 := Scalar.muli v1 c1_i32_684
  let v626 : BitVec 32 := Scalar.addi c0_i32_685 v625
  v626.toNat
def k0_off10 (v635 : BitVec 32) : Fin 2 → Nat :=
  let c128_i32_698 : BitVec 32 := 128#32
  let v644 : BitVec 32 := Scalar.muli v635 c128_i32_698
  let c0_i32_699 : BitVec 32 := 0#32
  let v645 : BitVec 32 := Scalar.addi v644 c0_i32_699
  let v646 : Index := Scalar.indexCast v645
  let c0_700 : Index := 0#32
  ![v646.toNat, 0]

def k0_chk11 (v635 : BitVec 32) : Prop :=
  (∀ a, (k0_off10 v635) a + S128x64.size a ≤ S4096x64.size a)
theorem k0_off10_inb : ∀ (v635 : BitVec 32) (k0_hw11 : k0_chk11 v635), ∀ a, (k0_off10 v635) a + S128x64.size a ≤ S4096x64.size a := fun v635 k0_hw11 => k0_hw11

def k0_off11 (v648 : BitVec 32) : Fin 2 → Nat :=
  let c128_i32_710 : BitVec 32 := 128#32
  let v657 : BitVec 32 := Scalar.muli v648 c128_i32_710
  let c0_i32_711 : BitVec 32 := 0#32
  let v658 : BitVec 32 := Scalar.addi v657 c0_i32_711
  let v659 : Index := Scalar.indexCast v658
  let c0_712 : Index := 0#32
  ![v659.toNat, 0]

def k0_chk12 (v648 : BitVec 32) : Prop :=
  (∀ a, (k0_off11 v648) a + S128x64.size a ≤ S4096x64.size a)
theorem k0_off11_inb : ∀ (v648 : BitVec 32) (k0_hw12 : k0_chk12 v648), ∀ a, (k0_off11 v648) a + S128x64.size a ≤ S4096x64.size a := fun v648 k0_hw12 => k0_hw12

def k0_dev27 (v0 : BitVec 32) : Nat :=
  let c0_i32_763 : BitVec 32 := 0#32
  let c1_i32_762 : BitVec 32 := 1#32
  let v693 : BitVec 32 := Scalar.muli v0 c1_i32_762
  let v694 : BitVec 32 := Scalar.addi c0_i32_763 v693
  v694.toNat
def k0_dev28 (v1 : BitVec 32) : Nat :=
  let c0_i32_783 : BitVec 32 := 0#32
  let c1_i32_782 : BitVec 32 := 1#32
  let v711 : BitVec 32 := Scalar.muli v1 c1_i32_782
  let v712 : BitVec 32 := Scalar.addi c0_i32_783 v711
  v712.toNat
def k0_dev29 (v0 : BitVec 32) : Nat :=
  let c0_i32_802 : BitVec 32 := 0#32
  let c1_i32_801 : BitVec 32 := 1#32
  let v729 : BitVec 32 := Scalar.muli v0 c1_i32_801
  let v730 : BitVec 32 := Scalar.addi c0_i32_802 v729
  v730.toNat
def k0_dev30 (v1 : BitVec 32) : Nat :=
  let c0_i32_822 : BitVec 32 := 0#32
  let c1_i32_821 : BitVec 32 := 1#32
  let v747 : BitVec 32 := Scalar.muli v1 c1_i32_821
  let v748 : BitVec 32 := Scalar.addi c0_i32_822 v747
  v748.toNat
def k0_off12 (v757 : BitVec 32) : Fin 2 → Nat :=
  let c128_i32_835 : BitVec 32 := 128#32
  let v766 : BitVec 32 := Scalar.muli v757 c128_i32_835
  let c0_i32_836 : BitVec 32 := 0#32
  let v767 : BitVec 32 := Scalar.addi v766 c0_i32_836
  let v768 : Index := Scalar.indexCast v767
  let c0_837 : Index := 0#32
  ![v768.toNat, 0]

def k0_chk13 (v757 : BitVec 32) : Prop :=
  (∀ a, (k0_off12 v757) a + S128x64.size a ≤ S4096x64.size a)
theorem k0_off12_inb : ∀ (v757 : BitVec 32) (k0_hw13 : k0_chk13 v757), ∀ a, (k0_off12 v757) a + S128x64.size a ≤ S4096x64.size a := fun v757 k0_hw13 => k0_hw13

def k0_off13 (v770 : BitVec 32) : Fin 2 → Nat :=
  let c128_i32_847 : BitVec 32 := 128#32
  let v779 : BitVec 32 := Scalar.muli v770 c128_i32_847
  let c0_i32_848 : BitVec 32 := 0#32
  let v780 : BitVec 32 := Scalar.addi v779 c0_i32_848
  let v781 : Index := Scalar.indexCast v780
  let c0_849 : Index := 0#32
  ![v781.toNat, 0]

def k0_chk14 (v770 : BitVec 32) : Prop :=
  (∀ a, (k0_off13 v770) a + S128x64.size a ≤ S4096x64.size a)
theorem k0_off13_inb : ∀ (v770 : BitVec 32) (k0_hw14 : k0_chk14 v770), ∀ a, (k0_off13 v770) a + S128x64.size a ≤ S4096x64.size a := fun v770 k0_hw14 => k0_hw14

def k0_dev31 (v0 : BitVec 32) : Nat :=
  let c0_i32_900 : BitVec 32 := 0#32
  let c1_i32_899 : BitVec 32 := 1#32
  let v815 : BitVec 32 := Scalar.muli v0 c1_i32_899
  let v816 : BitVec 32 := Scalar.addi c0_i32_900 v815
  v816.toNat
def k0_dev32 (v1 : BitVec 32) : Nat :=
  let c0_i32_920 : BitVec 32 := 0#32
  let c1_i32_919 : BitVec 32 := 1#32
  let v833 : BitVec 32 := Scalar.muli v1 c1_i32_919
  let v834 : BitVec 32 := Scalar.addi c0_i32_920 v833
  v834.toNat
def k0_dev33 (v0 : BitVec 32) : Nat :=
  let c0_i32_939 : BitVec 32 := 0#32
  let c1_i32_938 : BitVec 32 := 1#32
  let v851 : BitVec 32 := Scalar.muli v0 c1_i32_938
  let v852 : BitVec 32 := Scalar.addi c0_i32_939 v851
  v852.toNat
def k0_dev34 (v1 : BitVec 32) : Nat :=
  let c0_i32_959 : BitVec 32 := 0#32
  let c1_i32_958 : BitVec 32 := 1#32
  let v869 : BitVec 32 := Scalar.muli v1 c1_i32_958
  let v870 : BitVec 32 := Scalar.addi c0_i32_959 v869
  v870.toNat
def k0_off14 (v879 : BitVec 32) : Fin 2 → Nat :=
  let c128_i32_972 : BitVec 32 := 128#32
  let v888 : BitVec 32 := Scalar.muli v879 c128_i32_972
  let c0_i32_973 : BitVec 32 := 0#32
  let v889 : BitVec 32 := Scalar.addi v888 c0_i32_973
  let v890 : Index := Scalar.indexCast v889
  let c0_974 : Index := 0#32
  ![v890.toNat, 0]

def k0_chk15 (v879 : BitVec 32) : Prop :=
  (∀ a, (k0_off14 v879) a + S128x64.size a ≤ S4096x64.size a)
theorem k0_off14_inb : ∀ (v879 : BitVec 32) (k0_hw15 : k0_chk15 v879), ∀ a, (k0_off14 v879) a + S128x64.size a ≤ S4096x64.size a := fun v879 k0_hw15 => k0_hw15

def k0_off15 (v892 : BitVec 32) : Fin 2 → Nat :=
  let c128_i32_984 : BitVec 32 := 128#32
  let v901 : BitVec 32 := Scalar.muli v892 c128_i32_984
  let c0_i32_985 : BitVec 32 := 0#32
  let v902 : BitVec 32 := Scalar.addi v901 c0_i32_985
  let v903 : Index := Scalar.indexCast v902
  let c0_986 : Index := 0#32
  ![v903.toNat, 0]

def k0_chk16 (v892 : BitVec 32) : Prop :=
  (∀ a, (k0_off15 v892) a + S128x64.size a ≤ S4096x64.size a)
theorem k0_off15_inb : ∀ (v892 : BitVec 32) (k0_hw16 : k0_chk16 v892), ∀ a, (k0_off15 v892) a + S128x64.size a ≤ S4096x64.size a := fun v892 k0_hw16 => k0_hw16

def k0_dev35 (v0 : BitVec 32) : Nat :=
  let c0_i32_1037 : BitVec 32 := 0#32
  let c1_i32_1036 : BitVec 32 := 1#32
  let v937 : BitVec 32 := Scalar.muli v0 c1_i32_1036
  let v938 : BitVec 32 := Scalar.addi c0_i32_1037 v937
  v938.toNat
def k0_dev36 (v1 : BitVec 32) : Nat :=
  let c0_i32_1057 : BitVec 32 := 0#32
  let c1_i32_1056 : BitVec 32 := 1#32
  let v955 : BitVec 32 := Scalar.muli v1 c1_i32_1056
  let v956 : BitVec 32 := Scalar.addi c0_i32_1057 v955
  v956.toNat
def k0_dev37 (v0 : BitVec 32) : Nat :=
  let c0_i32_1076 : BitVec 32 := 0#32
  let c1_i32_1075 : BitVec 32 := 1#32
  let v973 : BitVec 32 := Scalar.muli v0 c1_i32_1075
  let v974 : BitVec 32 := Scalar.addi c0_i32_1076 v973
  v974.toNat
def k0_dev38 (v1 : BitVec 32) : Nat :=
  let c0_i32_1096 : BitVec 32 := 0#32
  let c1_i32_1095 : BitVec 32 := 1#32
  let v991 : BitVec 32 := Scalar.muli v1 c1_i32_1095
  let v992 : BitVec 32 := Scalar.addi c0_i32_1096 v991
  v992.toNat
def k0_off16 (v1001 : BitVec 32) : Fin 2 → Nat :=
  let c128_i32_1109 : BitVec 32 := 128#32
  let v1010 : BitVec 32 := Scalar.muli v1001 c128_i32_1109
  let c0_i32_1110 : BitVec 32 := 0#32
  let v1011 : BitVec 32 := Scalar.addi v1010 c0_i32_1110
  let v1012 : Index := Scalar.indexCast v1011
  let c0_1111 : Index := 0#32
  ![v1012.toNat, 0]

def k0_chk17 (v1001 : BitVec 32) : Prop :=
  (∀ a, (k0_off16 v1001) a + S128x64.size a ≤ S4096x64.size a)
theorem k0_off16_inb : ∀ (v1001 : BitVec 32) (k0_hw17 : k0_chk17 v1001), ∀ a, (k0_off16 v1001) a + S128x64.size a ≤ S4096x64.size a := fun v1001 k0_hw17 => k0_hw17

def k0_off17 (v1014 : BitVec 32) : Fin 2 → Nat :=
  let c128_i32_1121 : BitVec 32 := 128#32
  let v1023 : BitVec 32 := Scalar.muli v1014 c128_i32_1121
  let c0_i32_1122 : BitVec 32 := 0#32
  let v1024 : BitVec 32 := Scalar.addi v1023 c0_i32_1122
  let v1025 : Index := Scalar.indexCast v1024
  let c0_1123 : Index := 0#32
  ![v1025.toNat, 0]

def k0_chk18 (v1014 : BitVec 32) : Prop :=
  (∀ a, (k0_off17 v1014) a + S128x64.size a ≤ S4096x64.size a)
theorem k0_off17_inb : ∀ (v1014 : BitVec 32) (k0_hw18 : k0_chk18 v1014), ∀ a, (k0_off17 v1014) a + S128x64.size a ≤ S4096x64.size a := fun v1014 k0_hw18 => k0_hw18

def k0_dev39 (v0 : BitVec 32) : Nat :=
  let c0_i32_1174 : BitVec 32 := 0#32
  let c1_i32_1173 : BitVec 32 := 1#32
  let v1059 : BitVec 32 := Scalar.muli v0 c1_i32_1173
  let v1060 : BitVec 32 := Scalar.addi c0_i32_1174 v1059
  v1060.toNat
def k0_dev40 (v1 : BitVec 32) : Nat :=
  let c0_i32_1194 : BitVec 32 := 0#32
  let c1_i32_1193 : BitVec 32 := 1#32
  let v1077 : BitVec 32 := Scalar.muli v1 c1_i32_1193
  let v1078 : BitVec 32 := Scalar.addi c0_i32_1194 v1077
  v1078.toNat
def k0_dev41 (v0 : BitVec 32) : Nat :=
  let c0_i32_1213 : BitVec 32 := 0#32
  let c1_i32_1212 : BitVec 32 := 1#32
  let v1095 : BitVec 32 := Scalar.muli v0 c1_i32_1212
  let v1096 : BitVec 32 := Scalar.addi c0_i32_1213 v1095
  v1096.toNat
def k0_dev42 (v1 : BitVec 32) : Nat :=
  let c0_i32_1233 : BitVec 32 := 0#32
  let c1_i32_1232 : BitVec 32 := 1#32
  let v1113 : BitVec 32 := Scalar.muli v1 c1_i32_1232
  let v1114 : BitVec 32 := Scalar.addi c0_i32_1233 v1113
  v1114.toNat
def k0_off18 (v1123 : BitVec 32) : Fin 2 → Nat :=
  let c128_i32_1246 : BitVec 32 := 128#32
  let v1132 : BitVec 32 := Scalar.muli v1123 c128_i32_1246
  let c0_i32_1247 : BitVec 32 := 0#32
  let v1133 : BitVec 32 := Scalar.addi v1132 c0_i32_1247
  let v1134 : Index := Scalar.indexCast v1133
  let c0_1248 : Index := 0#32
  ![v1134.toNat, 0]

def k0_chk19 (v1123 : BitVec 32) : Prop :=
  (∀ a, (k0_off18 v1123) a + S128x64.size a ≤ S4096x64.size a)
theorem k0_off18_inb : ∀ (v1123 : BitVec 32) (k0_hw19 : k0_chk19 v1123), ∀ a, (k0_off18 v1123) a + S128x64.size a ≤ S4096x64.size a := fun v1123 k0_hw19 => k0_hw19

def k0_off19 (v1136 : BitVec 32) : Fin 2 → Nat :=
  let c128_i32_1258 : BitVec 32 := 128#32
  let v1145 : BitVec 32 := Scalar.muli v1136 c128_i32_1258
  let c0_i32_1259 : BitVec 32 := 0#32
  let v1146 : BitVec 32 := Scalar.addi v1145 c0_i32_1259
  let v1147 : Index := Scalar.indexCast v1146
  let c0_1260 : Index := 0#32
  ![v1147.toNat, 0]

def k0_chk20 (v1136 : BitVec 32) : Prop :=
  (∀ a, (k0_off19 v1136) a + S128x64.size a ≤ S4096x64.size a)
theorem k0_off19_inb : ∀ (v1136 : BitVec 32) (k0_hw20 : k0_chk20 v1136), ∀ a, (k0_off19 v1136) a + S128x64.size a ≤ S4096x64.size a := fun v1136 k0_hw20 => k0_hw20

def k0_dev43 (v0 : BitVec 32) : Nat :=
  let c0_i32_1311 : BitVec 32 := 0#32
  let c1_i32_1310 : BitVec 32 := 1#32
  let v1181 : BitVec 32 := Scalar.muli v0 c1_i32_1310
  let v1182 : BitVec 32 := Scalar.addi c0_i32_1311 v1181
  v1182.toNat
def k0_dev44 (v1 : BitVec 32) : Nat :=
  let c0_i32_1331 : BitVec 32 := 0#32
  let c1_i32_1330 : BitVec 32 := 1#32
  let v1199 : BitVec 32 := Scalar.muli v1 c1_i32_1330
  let v1200 : BitVec 32 := Scalar.addi c0_i32_1331 v1199
  v1200.toNat
def k0_dev45 (v0 : BitVec 32) : Nat :=
  let c0_i32_1350 : BitVec 32 := 0#32
  let c1_i32_1349 : BitVec 32 := 1#32
  let v1217 : BitVec 32 := Scalar.muli v0 c1_i32_1349
  let v1218 : BitVec 32 := Scalar.addi c0_i32_1350 v1217
  v1218.toNat
def k0_dev46 (v1 : BitVec 32) : Nat :=
  let c0_i32_1370 : BitVec 32 := 0#32
  let c1_i32_1369 : BitVec 32 := 1#32
  let v1235 : BitVec 32 := Scalar.muli v1 c1_i32_1369
  let v1236 : BitVec 32 := Scalar.addi c0_i32_1370 v1235
  v1236.toNat
def k0_off20 (v1245 : BitVec 32) : Fin 2 → Nat :=
  let c128_i32_1383 : BitVec 32 := 128#32
  let v1254 : BitVec 32 := Scalar.muli v1245 c128_i32_1383
  let c0_i32_1384 : BitVec 32 := 0#32
  let v1255 : BitVec 32 := Scalar.addi v1254 c0_i32_1384
  let v1256 : Index := Scalar.indexCast v1255
  let c0_1385 : Index := 0#32
  ![v1256.toNat, 0]

def k0_chk21 (v1245 : BitVec 32) : Prop :=
  (∀ a, (k0_off20 v1245) a + S128x64.size a ≤ S4096x64.size a)
theorem k0_off20_inb : ∀ (v1245 : BitVec 32) (k0_hw21 : k0_chk21 v1245), ∀ a, (k0_off20 v1245) a + S128x64.size a ≤ S4096x64.size a := fun v1245 k0_hw21 => k0_hw21

def k0_off21 (v1258 : BitVec 32) : Fin 2 → Nat :=
  let c128_i32_1395 : BitVec 32 := 128#32
  let v1267 : BitVec 32 := Scalar.muli v1258 c128_i32_1395
  let c0_i32_1396 : BitVec 32 := 0#32
  let v1268 : BitVec 32 := Scalar.addi v1267 c0_i32_1396
  let v1269 : Index := Scalar.indexCast v1268
  let c0_1397 : Index := 0#32
  ![v1269.toNat, 0]

def k0_chk22 (v1258 : BitVec 32) : Prop :=
  (∀ a, (k0_off21 v1258) a + S128x64.size a ≤ S4096x64.size a)
theorem k0_off21_inb : ∀ (v1258 : BitVec 32) (k0_hw22 : k0_chk22 v1258), ∀ a, (k0_off21 v1258) a + S128x64.size a ≤ S4096x64.size a := fun v1258 k0_hw22 => k0_hw22

def k0_dev47 (v0 : BitVec 32) : Nat :=
  let c0_i32_1448 : BitVec 32 := 0#32
  let c1_i32_1447 : BitVec 32 := 1#32
  let v1303 : BitVec 32 := Scalar.muli v0 c1_i32_1447
  let v1304 : BitVec 32 := Scalar.addi c0_i32_1448 v1303
  v1304.toNat
def k0_dev48 (v1 : BitVec 32) : Nat :=
  let c0_i32_1468 : BitVec 32 := 0#32
  let c1_i32_1467 : BitVec 32 := 1#32
  let v1321 : BitVec 32 := Scalar.muli v1 c1_i32_1467
  let v1322 : BitVec 32 := Scalar.addi c0_i32_1468 v1321
  v1322.toNat
def k0_dev49 (v0 : BitVec 32) : Nat :=
  let c0_i32_1487 : BitVec 32 := 0#32
  let c1_i32_1486 : BitVec 32 := 1#32
  let v1339 : BitVec 32 := Scalar.muli v0 c1_i32_1486
  let v1340 : BitVec 32 := Scalar.addi c0_i32_1487 v1339
  v1340.toNat
def k0_dev50 (v1 : BitVec 32) : Nat :=
  let c0_i32_1507 : BitVec 32 := 0#32
  let c1_i32_1506 : BitVec 32 := 1#32
  let v1357 : BitVec 32 := Scalar.muli v1 c1_i32_1506
  let v1358 : BitVec 32 := Scalar.addi c0_i32_1507 v1357
  v1358.toNat
def k0_off22 (v1367 : BitVec 32) : Fin 2 → Nat :=
  let c128_i32_1520 : BitVec 32 := 128#32
  let v1376 : BitVec 32 := Scalar.muli v1367 c128_i32_1520
  let c0_i32_1521 : BitVec 32 := 0#32
  let v1377 : BitVec 32 := Scalar.addi v1376 c0_i32_1521
  let v1378 : Index := Scalar.indexCast v1377
  let c0_1522 : Index := 0#32
  ![v1378.toNat, 0]

def k0_chk23 (v1367 : BitVec 32) : Prop :=
  (∀ a, (k0_off22 v1367) a + S128x64.size a ≤ S4096x64.size a)
theorem k0_off22_inb : ∀ (v1367 : BitVec 32) (k0_hw23 : k0_chk23 v1367), ∀ a, (k0_off22 v1367) a + S128x64.size a ≤ S4096x64.size a := fun v1367 k0_hw23 => k0_hw23

def k0_off23 (v1380 : BitVec 32) : Fin 2 → Nat :=
  let c128_i32_1532 : BitVec 32 := 128#32
  let v1389 : BitVec 32 := Scalar.muli v1380 c128_i32_1532
  let c0_i32_1533 : BitVec 32 := 0#32
  let v1390 : BitVec 32 := Scalar.addi v1389 c0_i32_1533
  let v1391 : Index := Scalar.indexCast v1390
  let c0_1534 : Index := 0#32
  ![v1391.toNat, 0]

def k0_chk24 (v1380 : BitVec 32) : Prop :=
  (∀ a, (k0_off23 v1380) a + S128x64.size a ≤ S4096x64.size a)
theorem k0_off23_inb : ∀ (v1380 : BitVec 32) (k0_hw24 : k0_chk24 v1380), ∀ a, (k0_off23 v1380) a + S128x64.size a ≤ S4096x64.size a := fun v1380 k0_hw24 => k0_hw24

def k0_dev51 (v0 : BitVec 32) : Nat :=
  let c0_i32_1585 : BitVec 32 := 0#32
  let c1_i32_1584 : BitVec 32 := 1#32
  let v1425 : BitVec 32 := Scalar.muli v0 c1_i32_1584
  let v1426 : BitVec 32 := Scalar.addi c0_i32_1585 v1425
  v1426.toNat
def k0_dev52 (v1 : BitVec 32) : Nat :=
  let c0_i32_1605 : BitVec 32 := 0#32
  let c1_i32_1604 : BitVec 32 := 1#32
  let v1443 : BitVec 32 := Scalar.muli v1 c1_i32_1604
  let v1444 : BitVec 32 := Scalar.addi c0_i32_1605 v1443
  v1444.toNat
def k0_dev53 (v0 : BitVec 32) : Nat :=
  let c0_i32_1624 : BitVec 32 := 0#32
  let c1_i32_1623 : BitVec 32 := 1#32
  let v1461 : BitVec 32 := Scalar.muli v0 c1_i32_1623
  let v1462 : BitVec 32 := Scalar.addi c0_i32_1624 v1461
  v1462.toNat
def k0_dev54 (v1 : BitVec 32) : Nat :=
  let c0_i32_1644 : BitVec 32 := 0#32
  let c1_i32_1643 : BitVec 32 := 1#32
  let v1479 : BitVec 32 := Scalar.muli v1 c1_i32_1643
  let v1480 : BitVec 32 := Scalar.addi c0_i32_1644 v1479
  v1480.toNat
def k0_off24 (v1489 : BitVec 32) : Fin 2 → Nat :=
  let c128_i32_1657 : BitVec 32 := 128#32
  let v1498 : BitVec 32 := Scalar.muli v1489 c128_i32_1657
  let c0_i32_1658 : BitVec 32 := 0#32
  let v1499 : BitVec 32 := Scalar.addi v1498 c0_i32_1658
  let v1500 : Index := Scalar.indexCast v1499
  let c0_1659 : Index := 0#32
  ![v1500.toNat, 0]

def k0_chk25 (v1489 : BitVec 32) : Prop :=
  (∀ a, (k0_off24 v1489) a + S128x64.size a ≤ S4096x64.size a)
theorem k0_off24_inb : ∀ (v1489 : BitVec 32) (k0_hw25 : k0_chk25 v1489), ∀ a, (k0_off24 v1489) a + S128x64.size a ≤ S4096x64.size a := fun v1489 k0_hw25 => k0_hw25

def k0_off25 (v1502 : BitVec 32) : Fin 2 → Nat :=
  let c128_i32_1669 : BitVec 32 := 128#32
  let v1511 : BitVec 32 := Scalar.muli v1502 c128_i32_1669
  let c0_i32_1670 : BitVec 32 := 0#32
  let v1512 : BitVec 32 := Scalar.addi v1511 c0_i32_1670
  let v1513 : Index := Scalar.indexCast v1512
  let c0_1671 : Index := 0#32
  ![v1513.toNat, 0]

def k0_chk26 (v1502 : BitVec 32) : Prop :=
  (∀ a, (k0_off25 v1502) a + S128x64.size a ≤ S4096x64.size a)
theorem k0_off25_inb : ∀ (v1502 : BitVec 32) (k0_hw26 : k0_chk26 v1502), ∀ a, (k0_off25 v1502) a + S128x64.size a ≤ S4096x64.size a := fun v1502 k0_hw26 => k0_hw26

def k0_dev55 (v0 : BitVec 32) : Nat :=
  let c0_i32_1722 : BitVec 32 := 0#32
  let c1_i32_1721 : BitVec 32 := 1#32
  let v1547 : BitVec 32 := Scalar.muli v0 c1_i32_1721
  let v1548 : BitVec 32 := Scalar.addi c0_i32_1722 v1547
  v1548.toNat
def k0_dev56 (v1 : BitVec 32) : Nat :=
  let c0_i32_1742 : BitVec 32 := 0#32
  let c1_i32_1741 : BitVec 32 := 1#32
  let v1565 : BitVec 32 := Scalar.muli v1 c1_i32_1741
  let v1566 : BitVec 32 := Scalar.addi c0_i32_1742 v1565
  v1566.toNat
def k0_dev57 (v0 : BitVec 32) : Nat :=
  let c0_i32_1761 : BitVec 32 := 0#32
  let c1_i32_1760 : BitVec 32 := 1#32
  let v1583 : BitVec 32 := Scalar.muli v0 c1_i32_1760
  let v1584 : BitVec 32 := Scalar.addi c0_i32_1761 v1583
  v1584.toNat
def k0_dev58 (v1 : BitVec 32) : Nat :=
  let c0_i32_1781 : BitVec 32 := 0#32
  let c1_i32_1780 : BitVec 32 := 1#32
  let v1601 : BitVec 32 := Scalar.muli v1 c1_i32_1780
  let v1602 : BitVec 32 := Scalar.addi c0_i32_1781 v1601
  v1602.toNat
def k0_off26 (v1611 : BitVec 32) : Fin 2 → Nat :=
  let c128_i32_1794 : BitVec 32 := 128#32
  let v1620 : BitVec 32 := Scalar.muli v1611 c128_i32_1794
  let c0_i32_1795 : BitVec 32 := 0#32
  let v1621 : BitVec 32 := Scalar.addi v1620 c0_i32_1795
  let v1622 : Index := Scalar.indexCast v1621
  let c0_1796 : Index := 0#32
  ![v1622.toNat, 0]

def k0_chk27 (v1611 : BitVec 32) : Prop :=
  (∀ a, (k0_off26 v1611) a + S128x64.size a ≤ S4096x64.size a)
theorem k0_off26_inb : ∀ (v1611 : BitVec 32) (k0_hw27 : k0_chk27 v1611), ∀ a, (k0_off26 v1611) a + S128x64.size a ≤ S4096x64.size a := fun v1611 k0_hw27 => k0_hw27

def k0_off27 (v1624 : BitVec 32) : Fin 2 → Nat :=
  let c128_i32_1806 : BitVec 32 := 128#32
  let v1633 : BitVec 32 := Scalar.muli v1624 c128_i32_1806
  let c0_i32_1807 : BitVec 32 := 0#32
  let v1634 : BitVec 32 := Scalar.addi v1633 c0_i32_1807
  let v1635 : Index := Scalar.indexCast v1634
  let c0_1808 : Index := 0#32
  ![v1635.toNat, 0]

def k0_chk28 (v1624 : BitVec 32) : Prop :=
  (∀ a, (k0_off27 v1624) a + S128x64.size a ≤ S4096x64.size a)
theorem k0_off27_inb : ∀ (v1624 : BitVec 32) (k0_hw28 : k0_chk28 v1624), ∀ a, (k0_off27 v1624) a + S128x64.size a ≤ S4096x64.size a := fun v1624 k0_hw28 => k0_hw28

def k0_dev59 (v0 : BitVec 32) : Nat :=
  let c0_i32_1859 : BitVec 32 := 0#32
  let c1_i32_1858 : BitVec 32 := 1#32
  let v1669 : BitVec 32 := Scalar.muli v0 c1_i32_1858
  let v1670 : BitVec 32 := Scalar.addi c0_i32_1859 v1669
  v1670.toNat
def k0_dev60 (v1 : BitVec 32) : Nat :=
  let c0_i32_1879 : BitVec 32 := 0#32
  let c1_i32_1878 : BitVec 32 := 1#32
  let v1687 : BitVec 32 := Scalar.muli v1 c1_i32_1878
  let v1688 : BitVec 32 := Scalar.addi c0_i32_1879 v1687
  v1688.toNat
def k0_dev61 (v0 : BitVec 32) : Nat :=
  let c0_i32_1898 : BitVec 32 := 0#32
  let c1_i32_1897 : BitVec 32 := 1#32
  let v1705 : BitVec 32 := Scalar.muli v0 c1_i32_1897
  let v1706 : BitVec 32 := Scalar.addi c0_i32_1898 v1705
  v1706.toNat
def k0_dev62 (v1 : BitVec 32) : Nat :=
  let c0_i32_1918 : BitVec 32 := 0#32
  let c1_i32_1917 : BitVec 32 := 1#32
  let v1723 : BitVec 32 := Scalar.muli v1 c1_i32_1917
  let v1724 : BitVec 32 := Scalar.addi c0_i32_1918 v1723
  v1724.toNat
def k0_off28 (v1733 : BitVec 32) : Fin 2 → Nat :=
  let c128_i32_1931 : BitVec 32 := 128#32
  let v1742 : BitVec 32 := Scalar.muli v1733 c128_i32_1931
  let c0_i32_1932 : BitVec 32 := 0#32
  let v1743 : BitVec 32 := Scalar.addi v1742 c0_i32_1932
  let v1744 : Index := Scalar.indexCast v1743
  let c0_1933 : Index := 0#32
  ![v1744.toNat, 0]

def k0_chk29 (v1733 : BitVec 32) : Prop :=
  (∀ a, (k0_off28 v1733) a + S128x64.size a ≤ S4096x64.size a)
theorem k0_off28_inb : ∀ (v1733 : BitVec 32) (k0_hw29 : k0_chk29 v1733), ∀ a, (k0_off28 v1733) a + S128x64.size a ≤ S4096x64.size a := fun v1733 k0_hw29 => k0_hw29

def k0_off29 (v1746 : BitVec 32) : Fin 2 → Nat :=
  let c128_i32_1943 : BitVec 32 := 128#32
  let v1755 : BitVec 32 := Scalar.muli v1746 c128_i32_1943
  let c0_i32_1944 : BitVec 32 := 0#32
  let v1756 : BitVec 32 := Scalar.addi v1755 c0_i32_1944
  let v1757 : Index := Scalar.indexCast v1756
  let c0_1945 : Index := 0#32
  ![v1757.toNat, 0]

def k0_chk30 (v1746 : BitVec 32) : Prop :=
  (∀ a, (k0_off29 v1746) a + S128x64.size a ≤ S4096x64.size a)
theorem k0_off29_inb : ∀ (v1746 : BitVec 32) (k0_hw30 : k0_chk30 v1746), ∀ a, (k0_off29 v1746) a + S128x64.size a ≤ S4096x64.size a := fun v1746 k0_hw30 => k0_hw30

def k0_dev63 (v0 : BitVec 32) : Nat :=
  let c0_i32_1996 : BitVec 32 := 0#32
  let c1_i32_1995 : BitVec 32 := 1#32
  let v1791 : BitVec 32 := Scalar.muli v0 c1_i32_1995
  let v1792 : BitVec 32 := Scalar.addi c0_i32_1996 v1791
  v1792.toNat

def k0_chk2 (v0 : BitVec 32) : Prop :=
  ((k0_dev2 v0) < nD) ∧
  ((k0_dev3 v0) < nD) ∧
  ((k0_dev4 v0) < nD) ∧
  ((k0_dev7 v0) < nD) ∧
  ((k0_dev9 v0) < nD) ∧
  ((k0_dev11 v0) < nD) ∧
  ((k0_dev13 v0) < nD) ∧
  ((k0_dev15 v0) < nD) ∧
  ((k0_dev17 v0) < nD) ∧
  ((k0_dev19 v0) < nD) ∧
  ((k0_dev21 v0) < nD) ∧
  ((k0_dev23 v0) < nD) ∧
  ((k0_dev25 v0) < nD) ∧
  ((k0_dev27 v0) < nD) ∧
  ((k0_dev29 v0) < nD) ∧
  ((k0_dev31 v0) < nD) ∧
  ((k0_dev33 v0) < nD) ∧
  ((k0_dev35 v0) < nD) ∧
  ((k0_dev37 v0) < nD) ∧
  ((k0_dev39 v0) < nD) ∧
  ((k0_dev41 v0) < nD) ∧
  ((k0_dev43 v0) < nD) ∧
  ((k0_dev45 v0) < nD) ∧
  ((k0_dev47 v0) < nD) ∧
  ((k0_dev49 v0) < nD) ∧
  ((k0_dev51 v0) < nD) ∧
  ((k0_dev53 v0) < nD) ∧
  ((k0_dev55 v0) < nD) ∧
  ((k0_dev57 v0) < nD) ∧
  ((k0_dev59 v0) < nD) ∧
  ((k0_dev61 v0) < nD) ∧
  ((k0_dev63 v0) < nD)
theorem k0_dev2_lt : ∀ (v0 : BitVec 32) (k0_hw2 : k0_chk2 v0), (k0_dev2 v0) < nD := fun v0 k0_hw2 => k0_hw2.1
theorem k0_dev3_lt : ∀ (v0 : BitVec 32) (k0_hw2 : k0_chk2 v0), (k0_dev3 v0) < nD := fun v0 k0_hw2 => k0_hw2.2.1
theorem k0_dev4_lt : ∀ (v0 : BitVec 32) (k0_hw2 : k0_chk2 v0), (k0_dev4 v0) < nD := fun v0 k0_hw2 => k0_hw2.2.2.1
theorem k0_dev7_lt : ∀ (v0 : BitVec 32) (k0_hw2 : k0_chk2 v0), (k0_dev7 v0) < nD := fun v0 k0_hw2 => k0_hw2.2.2.2.1
theorem k0_dev9_lt : ∀ (v0 : BitVec 32) (k0_hw2 : k0_chk2 v0), (k0_dev9 v0) < nD := fun v0 k0_hw2 => k0_hw2.2.2.2.2.1
theorem k0_dev11_lt : ∀ (v0 : BitVec 32) (k0_hw2 : k0_chk2 v0), (k0_dev11 v0) < nD := fun v0 k0_hw2 => k0_hw2.2.2.2.2.2.1
theorem k0_dev13_lt : ∀ (v0 : BitVec 32) (k0_hw2 : k0_chk2 v0), (k0_dev13 v0) < nD := fun v0 k0_hw2 => k0_hw2.2.2.2.2.2.2.1
theorem k0_dev15_lt : ∀ (v0 : BitVec 32) (k0_hw2 : k0_chk2 v0), (k0_dev15 v0) < nD := fun v0 k0_hw2 => k0_hw2.2.2.2.2.2.2.2.1
theorem k0_dev17_lt : ∀ (v0 : BitVec 32) (k0_hw2 : k0_chk2 v0), (k0_dev17 v0) < nD := fun v0 k0_hw2 => k0_hw2.2.2.2.2.2.2.2.2.1
theorem k0_dev19_lt : ∀ (v0 : BitVec 32) (k0_hw2 : k0_chk2 v0), (k0_dev19 v0) < nD := fun v0 k0_hw2 => k0_hw2.2.2.2.2.2.2.2.2.2.1
theorem k0_dev21_lt : ∀ (v0 : BitVec 32) (k0_hw2 : k0_chk2 v0), (k0_dev21 v0) < nD := fun v0 k0_hw2 => k0_hw2.2.2.2.2.2.2.2.2.2.2.1
theorem k0_dev23_lt : ∀ (v0 : BitVec 32) (k0_hw2 : k0_chk2 v0), (k0_dev23 v0) < nD := fun v0 k0_hw2 => k0_hw2.2.2.2.2.2.2.2.2.2.2.2.1
theorem k0_dev25_lt : ∀ (v0 : BitVec 32) (k0_hw2 : k0_chk2 v0), (k0_dev25 v0) < nD := fun v0 k0_hw2 => k0_hw2.2.2.2.2.2.2.2.2.2.2.2.2.1
theorem k0_dev27_lt : ∀ (v0 : BitVec 32) (k0_hw2 : k0_chk2 v0), (k0_dev27 v0) < nD := fun v0 k0_hw2 => k0_hw2.2.2.2.2.2.2.2.2.2.2.2.2.2.1
theorem k0_dev29_lt : ∀ (v0 : BitVec 32) (k0_hw2 : k0_chk2 v0), (k0_dev29 v0) < nD := fun v0 k0_hw2 => k0_hw2.2.2.2.2.2.2.2.2.2.2.2.2.2.2.1
theorem k0_dev31_lt : ∀ (v0 : BitVec 32) (k0_hw2 : k0_chk2 v0), (k0_dev31 v0) < nD := fun v0 k0_hw2 => k0_hw2.2.2.2.2.2.2.2.2.2.2.2.2.2.2.2.1
theorem k0_dev33_lt : ∀ (v0 : BitVec 32) (k0_hw2 : k0_chk2 v0), (k0_dev33 v0) < nD := fun v0 k0_hw2 => k0_hw2.2.2.2.2.2.2.2.2.2.2.2.2.2.2.2.2.1
theorem k0_dev35_lt : ∀ (v0 : BitVec 32) (k0_hw2 : k0_chk2 v0), (k0_dev35 v0) < nD := fun v0 k0_hw2 => k0_hw2.2.2.2.2.2.2.2.2.2.2.2.2.2.2.2.2.2.1
theorem k0_dev37_lt : ∀ (v0 : BitVec 32) (k0_hw2 : k0_chk2 v0), (k0_dev37 v0) < nD := fun v0 k0_hw2 => k0_hw2.2.2.2.2.2.2.2.2.2.2.2.2.2.2.2.2.2.2.1
theorem k0_dev39_lt : ∀ (v0 : BitVec 32) (k0_hw2 : k0_chk2 v0), (k0_dev39 v0) < nD := fun v0 k0_hw2 => k0_hw2.2.2.2.2.2.2.2.2.2.2.2.2.2.2.2.2.2.2.2.1
theorem k0_dev41_lt : ∀ (v0 : BitVec 32) (k0_hw2 : k0_chk2 v0), (k0_dev41 v0) < nD := fun v0 k0_hw2 => k0_hw2.2.2.2.2.2.2.2.2.2.2.2.2.2.2.2.2.2.2.2.2.1
theorem k0_dev43_lt : ∀ (v0 : BitVec 32) (k0_hw2 : k0_chk2 v0), (k0_dev43 v0) < nD := fun v0 k0_hw2 => k0_hw2.2.2.2.2.2.2.2.2.2.2.2.2.2.2.2.2.2.2.2.2.2.1
theorem k0_dev45_lt : ∀ (v0 : BitVec 32) (k0_hw2 : k0_chk2 v0), (k0_dev45 v0) < nD := fun v0 k0_hw2 => k0_hw2.2.2.2.2.2.2.2.2.2.2.2.2.2.2.2.2.2.2.2.2.2.2.1
theorem k0_dev47_lt : ∀ (v0 : BitVec 32) (k0_hw2 : k0_chk2 v0), (k0_dev47 v0) < nD := fun v0 k0_hw2 => k0_hw2.2.2.2.2.2.2.2.2.2.2.2.2.2.2.2.2.2.2.2.2.2.2.2.1
theorem k0_dev49_lt : ∀ (v0 : BitVec 32) (k0_hw2 : k0_chk2 v0), (k0_dev49 v0) < nD := fun v0 k0_hw2 => k0_hw2.2.2.2.2.2.2.2.2.2.2.2.2.2.2.2.2.2.2.2.2.2.2.2.2.1
theorem k0_dev51_lt : ∀ (v0 : BitVec 32) (k0_hw2 : k0_chk2 v0), (k0_dev51 v0) < nD := fun v0 k0_hw2 => k0_hw2.2.2.2.2.2.2.2.2.2.2.2.2.2.2.2.2.2.2.2.2.2.2.2.2.2.1
theorem k0_dev53_lt : ∀ (v0 : BitVec 32) (k0_hw2 : k0_chk2 v0), (k0_dev53 v0) < nD := fun v0 k0_hw2 => k0_hw2.2.2.2.2.2.2.2.2.2.2.2.2.2.2.2.2.2.2.2.2.2.2.2.2.2.2.1
theorem k0_dev55_lt : ∀ (v0 : BitVec 32) (k0_hw2 : k0_chk2 v0), (k0_dev55 v0) < nD := fun v0 k0_hw2 => k0_hw2.2.2.2.2.2.2.2.2.2.2.2.2.2.2.2.2.2.2.2.2.2.2.2.2.2.2.2.1
theorem k0_dev57_lt : ∀ (v0 : BitVec 32) (k0_hw2 : k0_chk2 v0), (k0_dev57 v0) < nD := fun v0 k0_hw2 => k0_hw2.2.2.2.2.2.2.2.2.2.2.2.2.2.2.2.2.2.2.2.2.2.2.2.2.2.2.2.2.1
theorem k0_dev59_lt : ∀ (v0 : BitVec 32) (k0_hw2 : k0_chk2 v0), (k0_dev59 v0) < nD := fun v0 k0_hw2 => k0_hw2.2.2.2.2.2.2.2.2.2.2.2.2.2.2.2.2.2.2.2.2.2.2.2.2.2.2.2.2.2.1
theorem k0_dev61_lt : ∀ (v0 : BitVec 32) (k0_hw2 : k0_chk2 v0), (k0_dev61 v0) < nD := fun v0 k0_hw2 => k0_hw2.2.2.2.2.2.2.2.2.2.2.2.2.2.2.2.2.2.2.2.2.2.2.2.2.2.2.2.2.2.2.1
theorem k0_dev63_lt : ∀ (v0 : BitVec 32) (k0_hw2 : k0_chk2 v0), (k0_dev63 v0) < nD := fun v0 k0_hw2 => k0_hw2.2.2.2.2.2.2.2.2.2.2.2.2.2.2.2.2.2.2.2.2.2.2.2.2.2.2.2.2.2.2.2

def k0_dev64 (v1 : BitVec 32) : Nat :=
  let c0_i32_2035 : BitVec 32 := 0#32
  let c1_i32_2034 : BitVec 32 := 1#32
  let v1825 : BitVec 32 := Scalar.muli v1 c1_i32_2034
  let v1826 : BitVec 32 := Scalar.addi c0_i32_2035 v1825
  v1826.toNat

def k0_chk1 (v1 : BitVec 32) : Prop :=
  ((k0_dev1 v1) < nD) ∧
  ((k0_dev5 v1) < nD) ∧
  ((k0_dev6 v1) < nD) ∧
  ((k0_dev8 v1) < nD) ∧
  ((k0_dev10 v1) < nD) ∧
  ((k0_dev12 v1) < nD) ∧
  ((k0_dev14 v1) < nD) ∧
  ((k0_dev16 v1) < nD) ∧
  ((k0_dev18 v1) < nD) ∧
  ((k0_dev20 v1) < nD) ∧
  ((k0_dev22 v1) < nD) ∧
  ((k0_dev24 v1) < nD) ∧
  ((k0_dev26 v1) < nD) ∧
  ((k0_dev28 v1) < nD) ∧
  ((k0_dev30 v1) < nD) ∧
  ((k0_dev32 v1) < nD) ∧
  ((k0_dev34 v1) < nD) ∧
  ((k0_dev36 v1) < nD) ∧
  ((k0_dev38 v1) < nD) ∧
  ((k0_dev40 v1) < nD) ∧
  ((k0_dev42 v1) < nD) ∧
  ((k0_dev44 v1) < nD) ∧
  ((k0_dev46 v1) < nD) ∧
  ((k0_dev48 v1) < nD) ∧
  ((k0_dev50 v1) < nD) ∧
  ((k0_dev52 v1) < nD) ∧
  ((k0_dev54 v1) < nD) ∧
  ((k0_dev56 v1) < nD) ∧
  ((k0_dev58 v1) < nD) ∧
  ((k0_dev60 v1) < nD) ∧
  ((k0_dev62 v1) < nD) ∧
  ((k0_dev64 v1) < nD)
theorem k0_dev1_lt : ∀ (v1 : BitVec 32) (k0_hw1 : k0_chk1 v1), (k0_dev1 v1) < nD := fun v1 k0_hw1 => k0_hw1.1
theorem k0_dev5_lt : ∀ (v1 : BitVec 32) (k0_hw1 : k0_chk1 v1), (k0_dev5 v1) < nD := fun v1 k0_hw1 => k0_hw1.2.1
theorem k0_dev6_lt : ∀ (v1 : BitVec 32) (k0_hw1 : k0_chk1 v1), (k0_dev6 v1) < nD := fun v1 k0_hw1 => k0_hw1.2.2.1
theorem k0_dev8_lt : ∀ (v1 : BitVec 32) (k0_hw1 : k0_chk1 v1), (k0_dev8 v1) < nD := fun v1 k0_hw1 => k0_hw1.2.2.2.1
theorem k0_dev10_lt : ∀ (v1 : BitVec 32) (k0_hw1 : k0_chk1 v1), (k0_dev10 v1) < nD := fun v1 k0_hw1 => k0_hw1.2.2.2.2.1
theorem k0_dev12_lt : ∀ (v1 : BitVec 32) (k0_hw1 : k0_chk1 v1), (k0_dev12 v1) < nD := fun v1 k0_hw1 => k0_hw1.2.2.2.2.2.1
theorem k0_dev14_lt : ∀ (v1 : BitVec 32) (k0_hw1 : k0_chk1 v1), (k0_dev14 v1) < nD := fun v1 k0_hw1 => k0_hw1.2.2.2.2.2.2.1
theorem k0_dev16_lt : ∀ (v1 : BitVec 32) (k0_hw1 : k0_chk1 v1), (k0_dev16 v1) < nD := fun v1 k0_hw1 => k0_hw1.2.2.2.2.2.2.2.1
theorem k0_dev18_lt : ∀ (v1 : BitVec 32) (k0_hw1 : k0_chk1 v1), (k0_dev18 v1) < nD := fun v1 k0_hw1 => k0_hw1.2.2.2.2.2.2.2.2.1
theorem k0_dev20_lt : ∀ (v1 : BitVec 32) (k0_hw1 : k0_chk1 v1), (k0_dev20 v1) < nD := fun v1 k0_hw1 => k0_hw1.2.2.2.2.2.2.2.2.2.1
theorem k0_dev22_lt : ∀ (v1 : BitVec 32) (k0_hw1 : k0_chk1 v1), (k0_dev22 v1) < nD := fun v1 k0_hw1 => k0_hw1.2.2.2.2.2.2.2.2.2.2.1
theorem k0_dev24_lt : ∀ (v1 : BitVec 32) (k0_hw1 : k0_chk1 v1), (k0_dev24 v1) < nD := fun v1 k0_hw1 => k0_hw1.2.2.2.2.2.2.2.2.2.2.2.1
theorem k0_dev26_lt : ∀ (v1 : BitVec 32) (k0_hw1 : k0_chk1 v1), (k0_dev26 v1) < nD := fun v1 k0_hw1 => k0_hw1.2.2.2.2.2.2.2.2.2.2.2.2.1
theorem k0_dev28_lt : ∀ (v1 : BitVec 32) (k0_hw1 : k0_chk1 v1), (k0_dev28 v1) < nD := fun v1 k0_hw1 => k0_hw1.2.2.2.2.2.2.2.2.2.2.2.2.2.1
theorem k0_dev30_lt : ∀ (v1 : BitVec 32) (k0_hw1 : k0_chk1 v1), (k0_dev30 v1) < nD := fun v1 k0_hw1 => k0_hw1.2.2.2.2.2.2.2.2.2.2.2.2.2.2.1
theorem k0_dev32_lt : ∀ (v1 : BitVec 32) (k0_hw1 : k0_chk1 v1), (k0_dev32 v1) < nD := fun v1 k0_hw1 => k0_hw1.2.2.2.2.2.2.2.2.2.2.2.2.2.2.2.1
theorem k0_dev34_lt : ∀ (v1 : BitVec 32) (k0_hw1 : k0_chk1 v1), (k0_dev34 v1) < nD := fun v1 k0_hw1 => k0_hw1.2.2.2.2.2.2.2.2.2.2.2.2.2.2.2.2.1
theorem k0_dev36_lt : ∀ (v1 : BitVec 32) (k0_hw1 : k0_chk1 v1), (k0_dev36 v1) < nD := fun v1 k0_hw1 => k0_hw1.2.2.2.2.2.2.2.2.2.2.2.2.2.2.2.2.2.1
theorem k0_dev38_lt : ∀ (v1 : BitVec 32) (k0_hw1 : k0_chk1 v1), (k0_dev38 v1) < nD := fun v1 k0_hw1 => k0_hw1.2.2.2.2.2.2.2.2.2.2.2.2.2.2.2.2.2.2.1
theorem k0_dev40_lt : ∀ (v1 : BitVec 32) (k0_hw1 : k0_chk1 v1), (k0_dev40 v1) < nD := fun v1 k0_hw1 => k0_hw1.2.2.2.2.2.2.2.2.2.2.2.2.2.2.2.2.2.2.2.1
theorem k0_dev42_lt : ∀ (v1 : BitVec 32) (k0_hw1 : k0_chk1 v1), (k0_dev42 v1) < nD := fun v1 k0_hw1 => k0_hw1.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.2.2.2.2.2.2.2.2.2.2.2.2.2.2.2.2.2.2.2.2.2.2.1
theorem k0_dev48_lt : ∀ (v1 : BitVec 32) (k0_hw1 : k0_chk1 v1), (k0_dev48 v1) < nD := fun v1 k0_hw1 => k0_hw1.2.2.2.2.2.2.2.2.2.2.2.2.2.2.2.2.2.2.2.2.2.2.2.1
theorem k0_dev50_lt : ∀ (v1 : BitVec 32) (k0_hw1 : k0_chk1 v1), (k0_dev50 v1) < nD := fun v1 k0_hw1 => k0_hw1.2.2.2.2.2.2.2.2.2.2.2.2.2.2.2.2.2.2.2.2.2.2.2.2.1
theorem k0_dev52_lt : ∀ (v1 : BitVec 32) (k0_hw1 : k0_chk1 v1), (k0_dev52 v1) < nD := fun v1 k0_hw1 => k0_hw1.2.2.2.2.2.2.2.2.2.2.2.2.2.2.2.2.2.2.2.2.2.2.2.2.2.1
theorem k0_dev54_lt : ∀ (v1 : BitVec 32) (k0_hw1 : k0_chk1 v1), (k0_dev54 v1) < nD := fun v1 k0_hw1 => k0_hw1.2.2.2.2.2.2.2.2.2.2.2.2.2.2.2.2.2.2.2.2.2.2.2.2.2.2.1
theorem k0_dev56_lt : ∀ (v1 : BitVec 32) (k0_hw1 : k0_chk1 v1), (k0_dev56 v1) < nD := fun v1 k0_hw1 => k0_hw1.2.2.2.2.2.2.2.2.2.2.2.2.2.2.2.2.2.2.2.2.2.2.2.2.2.2.2.1
theorem k0_dev58_lt : ∀ (v1 : BitVec 32) (k0_hw1 : k0_chk1 v1), (k0_dev58 v1) < nD := fun v1 k0_hw1 => k0_hw1.2.2.2.2.2.2.2.2.2.2.2.2.2.2.2.2.2.2.2.2.2.2.2.2.2.2.2.2.1
theorem k0_dev60_lt : ∀ (v1 : BitVec 32) (k0_hw1 : k0_chk1 v1), (k0_dev60 v1) < nD := fun v1 k0_hw1 => k0_hw1.2.2.2.2.2.2.2.2.2.2.2.2.2.2.2.2.2.2.2.2.2.2.2.2.2.2.2.2.2.1
theorem k0_dev62_lt : ∀ (v1 : BitVec 32) (k0_hw1 : k0_chk1 v1), (k0_dev62 v1) < nD := fun v1 k0_hw1 => k0_hw1.2.2.2.2.2.2.2.2.2.2.2.2.2.2.2.2.2.2.2.2.2.2.2.2.2.2.2.2.2.2.1
theorem k0_dev64_lt : ∀ (v1 : BitVec 32) (k0_hw1 : k0_chk1 v1), (k0_dev64 v1) < nD := fun v1 k0_hw1 => k0_hw1.2.2.2.2.2.2.2.2.2.2.2.2.2.2.2.2.2.2.2.2.2.2.2.2.2.2.2.2.2.2.2

def k0_off30 (v1835 : BitVec 32) : Fin 2 → Nat :=
  let c128_i32_2048 : BitVec 32 := 128#32
  let v1844 : BitVec 32 := Scalar.muli v1835 c128_i32_2048
  let c0_i32_2049 : BitVec 32 := 0#32
  let v1845 : BitVec 32 := Scalar.addi v1844 c0_i32_2049
  let v1846 : Index := Scalar.indexCast v1845
  let c0_2050 : Index := 0#32
  ![v1846.toNat, 0]

def k0_chk31 (v1835 : BitVec 32) : Prop :=
  (∀ a, (k0_off30 v1835) a + S128x64.size a ≤ S4096x64.size a)
theorem k0_off30_inb : ∀ (v1835 : BitVec 32) (k0_hw31 : k0_chk31 v1835), ∀ a, (k0_off30 v1835) a + S128x64.size a ≤ S4096x64.size a := fun v1835 k0_hw31 => k0_hw31

def k0_off31 (v1848 : BitVec 32) : Fin 2 → Nat :=
  let c128_i32_2060 : BitVec 32 := 128#32
  let v1857 : BitVec 32 := Scalar.muli v1848 c128_i32_2060
  let c0_i32_2061 : BitVec 32 := 0#32
  let v1858 : BitVec 32 := Scalar.addi v1857 c0_i32_2061
  let v1859 : Index := Scalar.indexCast v1858
  let c0_2062 : Index := 0#32
  ![v1859.toNat, 0]

def k0_chk32 (v1848 : BitVec 32) : Prop :=
  (∀ a, (k0_off31 v1848) a + S128x64.size a ≤ S4096x64.size a)
theorem k0_off31_inb : ∀ (v1848 : BitVec 32) (k0_hw32 : k0_chk32 v1848), ∀ a, (k0_off31 v1848) a + S128x64.size a ≤ S4096x64.size a := fun v1848 k0_hw32 => k0_hw32

def k0_off32 (v1901 : BitVec 32) : Fin 2 → Nat :=
  let c128_i32_2127 : BitVec 32 := 128#32
  let v1910 : BitVec 32 := Scalar.muli v1901 c128_i32_2127
  let c0_i32_2128 : BitVec 32 := 0#32
  let v1911 : BitVec 32 := Scalar.addi v1910 c0_i32_2128
  let v1912 : Index := Scalar.indexCast v1911
  let c0_2129 : Index := 0#32
  ![v1912.toNat, 0]

def k0_chk33 (v1901 : BitVec 32) : Prop :=
  (∀ a, (k0_off32 v1901) a + S64x64.size a ≤ S4096x64.size a)
theorem k0_off32_inb : ∀ (v1901 : BitVec 32) (k0_hw33 : k0_chk33 v1901), ∀ a, (k0_off32 v1901) a + S64x64.size a ≤ S4096x64.size a := fun v1901 k0_hw33 => k0_hw33

def k0_off33 (v1914 : BitVec 32) : Fin 2 → Nat :=
  let c128_i32_2138 : BitVec 32 := 128#32
  let v1923 : BitVec 32 := Scalar.muli v1914 c128_i32_2138
  let c64_i32_2139 : BitVec 32 := 64#32
  let v1924 : BitVec 32 := Scalar.addi v1923 c64_i32_2139
  let v1925 : Index := Scalar.indexCast v1924
  let c0_2140 : Index := 0#32
  ![v1925.toNat, 0]

def k0_chk34 (v1914 : BitVec 32) : Prop :=
  (∀ a, (k0_off33 v1914) a + S64x64.size a ≤ S4096x64.size a)
theorem k0_off33_inb : ∀ (v1914 : BitVec 32) (k0_hw34 : k0_chk34 v1914), ∀ a, (k0_off33 v1914) a + S64x64.size a ≤ S4096x64.size a := fun v1914 k0_hw34 => k0_hw34

abbrev stage0_0 : Fin 1 → Memref sig .tc .vmem S128x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x64 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S2 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S16 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Same.lean ====
module
/- The program as compiled and the program read over the ideal floats are printed with the same text: here
   their tables, their bodies and their mains are shown equal, so one run serves both. -/
public import proofs.«01_k».proof.Defs
public import proofs.«01_k».proof.Proof.Gen.Kernel
public import proofs.«01_k».proof.Proof.Gen.KernelIdeal

@[expose] public section

noncomputable section

namespace Cert.Proof

open Idealize.ShloMosaic Idealize.ShloMosaic.TcCoe Idealize.SL.Sem

variable {F : FTy → Type} [FloatOps F]

/-- The table of the ring, entry by entry. -/
theorem lit0_same : Cert.Kernel.lit0 = Cert.KernelIdeal.lit0 := by
  funext i; revert i; decide +kernel

set_option maxHeartbeats 4000000 in
theorem main_same : Cert.Kernel.main (F := F) = Cert.KernelIdeal.main (F := F) := by
  unfold Cert.Kernel.main Cert.KernelIdeal.main
  rw [lit0_same]
  rfl

set_option maxHeartbeats 4000000 in
theorem body_same : Cert.Kernel.cc0_body (F := F) = Cert.KernelIdeal.cc0_body (F := F) := rfl

theorem bodies_same : Cert.Kernel.defs₀ (F := F) = Cert.KernelIdeal.defs₀ (F := F) := by
  unfold Cert.Kernel.defs₀ Cert.KernelIdeal.defs₀
  refine congrArg Defs.onTc ?_
  funext l x
  match l, x with
  | 0, (t, s) =>
    show Cert.Kernel.cc0_body (F := F) _ _ _ _ _ _ _ _ _ _ _ _ _ _ _ _ _ _ _ _ _ _ _ _ _ _ = _
    rw [body_same]

theorem pipes_same : Cert.Kernel.pcfgs (F := F) = Cert.KernelIdeal.pcfgs (F := F) := rfl

theorem defs_same : Cert.Kernel.defs (F := F) = Cert.KernelIdeal.defs (F := F) :=
  congrArg (Pipeline.defs (Cert.KernelIdeal.pcfgs (F := F))) bodies_same

/-- What a run of the one ensures, a run of the other does. -/
theorem run_same (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_same, main_same]
  exact h

end Cert.Proof
-- ==== Proof.Hops.lean ====
/- The kernel's body as a program written with its loops' counters as variables: one hop of the two
   rings at a symbolic hop number, the two last hops, and the body they make up. `body_eq` states
   that the printed body, whose hops are unrolled, is this program. -/
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.Regions

@[expose] public section

noncomputable section

namespace Cert.KernelIdeal.Ring

open Idealize.ShloMosaic Idealize.ShloMosaic.TcCoe Idealize.SL Idealize.SL.Sem
open Cert.KernelIdeal Cert.KernelIdeal.Gen

variable {F : FTy → Type} [FloatOps F]

/-- A program of the kernel's processor. -/
abbrev P (F : FTy → Type) [FloatOps F] := Prog (TpuEff nD τ sig (Elt F) Λ₀ .tc) PUnit

/-! ## Views: a direction is a Boolean, `false` the ring to the right, `true` the ring to the left -/

/-- The slots a direction's blocks land in. -/
abbrev buf : Bool → Memref sig .tc .vmem S17x128x4096 .fp8e4m3
  | false => Memref.whole cc0_scratch0
  | true => Memref.whole cc0_scratch1

/-- Half `j` of slot `s` lies inside the slots. -/
theorem inb_half (s : Fin 17) (j : Fin 2) (a : Fin 3) :
    (![s.val, 64 * j.val, 0] : Fin 3 → Nat) a + S1x64x4096.size a ≤ S17x128x4096.size a := by
  revert s j a; decide

/-- Slot `s` lies inside the slots. -/
theorem inb_slot (s : Fin 17) (a : Fin 3) :
    (![s.val, 0, 0] : Fin 3 → Nat) a + S1x128x4096.size a ≤ S17x128x4096.size a := by
  revert s a; decide

/-- The rectangle of half `j` of slot `s`. -/
abbrev rectH (s : Fin 17) (j : Fin 2) : Rect S17x128x4096 :=
  Rect.unit (s := S17x128x4096) ![s.val, 64 * j.val, 0] S1x64x4096.size (inb_half s j)

/-- The rectangle of slot `s`. -/
abbrev rectS (s : Fin 17) : Rect S17x128x4096 :=
  Rect.unit (s := S17x128x4096) ![s.val, 0, 0] S1x128x4096.size (inb_slot s)

/-- Half `j` of slot `s` of a direction, as a transfer names it. -/
abbrev half (d : Bool) (s : Fin 17) (j : Fin 2) : Memref sig .tc .vmem S64x4096 .fp8e4m3 :=
  ((buf d).slice (rectH s j) (fun _ => rfl)).squeeze S64x4096 squeezes_S1x64x4096_S64x4096

/-- Slot `s` of a direction, as the products read it. -/
abbrev slot (d : Bool) (s : Fin 17) : Memref sig .tc .vmem S128x4096 .fp8e4m3 :=
  ((buf d).slice (rectS s) (fun _ => rfl)).squeeze S128x4096 squeezes_S1x128x4096_S128x4096

/-- A half of a slot is whole words of its buffer. -/
theorem words_half (s : Fin 17) (j : Fin 2) : (rectH s j).WholeWords (EltTy.packing .fp8e4m3) := by
  revert s j; decide

/-- The transfers' ends are exact: a half of a slot is whole words. -/
theorem exact_half (d : Bool) (s : Fin 17) (j : Fin 2) : (half d s j).view.WordExact := by
  cases d
  · exact ((Memref.isWhole_whole (sig := sig) cc0_scratch0).wordExact_slice rfl _ (words_half s j)).reshape _ _
  · exact ((Memref.isWhole_whole (sig := sig) cc0_scratch1).wordExact_slice rfl _ (words_half s j)).reshape _ _

/-- The slot a direction's hop `h` sends from: both directions send the device's own block from slot
    0 of the ring to the right. -/
abbrev from_ : Bool → Fin 17 → Fin 2 → Memref sig .tc .vmem S64x4096 .fp8e4m3
  | true, ⟨0, _⟩, j => half false ⟨0, by decide⟩ j
  | true, ⟨s + 1, p⟩, j => half true ⟨s + 1, p⟩ j
  | false, s, j => half false s j

/-- and its end is exact. -/
theorem exact_from : ∀ (d : Bool) (s : Fin 17) (j : Fin 2), (from_ d s j).view.WordExact
  | true, ⟨0, _⟩, j => exact_half false ⟨0, by decide⟩ j
  | true, ⟨s + 1, p⟩, j => exact_half true ⟨s + 1, p⟩ j
  | false, s, j => exact_half false s j

/-- A direction's semaphores of the sends. -/
abbrev sendArr : Bool → DmaSems sig S32 | false => cc0_scratch3 | true => cc0_scratch5
/-- A direction's semaphores of the landings. -/
abbrev recvArr : Bool → DmaSems sig S32 | false => cc0_scratch4 | true => cc0_scratch6

/-- Semaphore `n` of an array of 32 lies inside it. -/
theorem inb_sem (n : Fin 32) (a : Fin 1) : (![n.val] : Fin 1 → Nat) a + S1.size a ≤ S32.size a := by
  revert n a; decide

/-- Semaphore `n` of an array. -/
abbrev semOf (A : DmaSems sig S32) (n : Fin 32) : DmaSem sig :=
  ((A.slice (Rect.unit (s := S32) ![n.val] S1.size (inb_sem n))).squeeze S_ squeezes_S1_S_).sem

/-- The number of half `j`'s semaphore at hop `h`. -/
abbrev sx (h : Fin 16) (j : Fin 2) : Fin 32 := ⟨2 * h.val + j.val, by omega⟩

/-- A direction's table of the devices its blocks come from. -/
abbrev tab : Bool → Memref sig .tc .smem S16 .i32
  | false => Memref.whole cc0_stg5_0 | true => Memref.whole cc0_stg6_0

/-- Entry `h` lies inside a table. -/
theorem inb_tab (h : Fin 16) (a : Fin 1) : (![h.val] : Fin 1 → Nat) a + S1.size a ≤ S16.size a := by
  revert h a; decide

/-- The handshake's semaphore. -/
abbrev barS : Sem sig := (SemArray.scalar (sig.barrier 0 rfl) : Sems sig S_).sem

/-! ## One operation after another: each takes what follows it -/

/-- The send of half `j` at hop `h` to device `dv`: slot `h` to the neighbour's slot `h + 1`. -/
def send (d : Bool) (dv : Dev nD) (h : Fin 16) (j : Fin 2) (k : P F) : P F :=
  .op (.enqueueDma (from_ d h.castSucc j)
    (.remote (Dev.tc dv) (half d h.succ j) (.dma (semOf (sendArr d) (sx h j)))) (.dma (semOf (recvArr d) (sx h j)))
    (exact_from d h.castSucc j) (exact_half d h.succ j) ⟨⟨rfl, Or.inl rfl⟩, trivial⟩) fun _ => k

/-- The wait for the landing of half `j` at hop `h`. -/
def waitRecv (d : Bool) (h : Fin 16) (j : Fin 2) (k : P F) : P F :=
  .op (.waitDma2 (semOf (recvArr d) (sx h j)) (from_ d h.castSucc j) (half d h.succ j)
    (exact_from d h.castSucc j) (exact_half d h.succ j)) fun _ => k

/-- The wait for the end of one's own send of half `j` at hop `h`. -/
def waitSend (d : Bool) (h : Fin 16) (j : Fin 2) (k : P F) : P F :=
  .op (.waitDma2 (semOf (sendArr d) (sx h j)) (half d h.succ j) (from_ d h.castSucc j)
    (exact_half d h.succ j) (exact_from d h.castSucc j)) fun _ => k

/-- Entry `h` of a direction's table, read and handed on. -/
def origin (d : Bool) (h : Fin 16) (k : Elt F .i32 → P F) : P F :=
  .op (.load (tab d) (Rect.unit (s := S16) ![h.val] S1.size (inb_tab h))
    (View.loadsAt_rect (View.loads_smem_one rfl numel1_S1))) fun f => k (f (Shape.Idx.first (numel1_S1.symm ▸ Nat.one_pos)))

/-- The product of the block that landed at hop `h`, written to the rows of the device it comes from. -/
def gemm (d : Bool) (h : Fin 16) (sc : F .f32) (k : P F) : P F :=
  origin d h fun v =>
  .op (.assume (k0_chk3 v) (k0_chk3.dec v)) fun hw =>
  .op (.load (slot d h.succ) (Rect.unit (s := S128x4096) ![0, 0] S128x4096.size inb_S128x4096_S128x4096_0_0).toLoadRect (View.loadsAt_vmem h_S128x4096)) fun a =>
  .op (.load (Memref.whole cc0_scratch2) (Rect.unit (s := S4096x64) ![0, 0] S4096x64.size inb_S4096x64_S4096x64_0_0).toLoadRect (View.loadsAt_vmem h_S4096x64)) fun w =>
  .op (.load (Memref.whole cc0_stg7_0) (Rect.unit (s := S4096x64) (k0_off2 v) S128x64.size (k0_off2_inb v hw.down)).toLoadRect (View.loadsAt_vmem h_S128x64)) fun _ =>
  .op (.store (Memref.whole cc0_stg7_0) (Rect.unit (s := S4096x64) (k0_off2 v) S128x64.size (k0_off2_inb v hw.down)) (k0_pay5 sc a w) Finset.univ (View.stores_vmem_bits_univ h_S128x64 rfl) (.inl rfl)) fun _ => k

/-- One of the first fourteen hops: each half of both directions is awaited and sent on, both blocks
    are multiplied, and the sends of this hop's blocks are awaited. -/
def hop (rt lt : Dev nD) (sc : F .f32) (h : Fin 14) (k : P F) : P F :=
  let h0 : Fin 16 := ⟨h.val, by omega⟩
  let h1 : Fin 16 := ⟨h.val + 1, by omega⟩
  waitRecv false h0 0 <| send false rt h1 0 <| waitRecv true h0 0 <| send true lt h1 0 <|
  waitRecv false h0 1 <| send false rt h1 1 <| waitRecv true h0 1 <| send true lt h1 1 <|
  gemm false h0 sc <| gemm true h0 sc <|
  waitSend true h0 0 <| waitSend true h0 1 <| waitSend false h0 0 <| waitSend false h0 1 k

/-- The hops from the fourteenth minus `n` up to the fourteenth. -/
def hops (rt lt : Dev nD) (sc : F .f32) (k : P F) : (n : Nat) → n ≤ 14 → P F
  | 0, _ => k
  | n + 1, hn => hop rt lt sc ⟨13 - n, by omega⟩ (hops rt lt sc k n (by omega))

/-- The product of the lower half that came by the ring to the right at the last hop. -/
def low (sc : F .f32) (k : P F) : P F :=
  origin false 15 fun v =>
  .op (.assume (k0_chk33 v) (k0_chk33.dec v)) fun hw =>
  .op (.load (slot false 16) (Rect.unit (s := S128x4096) ![0, 0] S64x4096.size inb_S128x4096_S64x4096_0_0).toLoadRect (View.loadsAt_vmem h_S64x4096)) fun a =>
  .op (.load (Memref.whole cc0_scratch2) (Rect.unit (s := S4096x64) ![0, 0] S4096x64.size inb_S4096x64_S4096x64_0_0).toLoadRect (View.loadsAt_vmem h_S4096x64)) fun w =>
  .op (.load (Memref.whole cc0_stg7_0) (Rect.unit (s := S4096x64) (k0_off32 v) S64x64.size (k0_off32_inb v hw.down)).toLoadRect (View.loadsAt_vmem h_S64x64)) fun _ =>
  .op (.store (Memref.whole cc0_stg7_0) (Rect.unit (s := S4096x64) (k0_off32 v) S64x64.size (k0_off32_inb v hw.down)) (k0_pay38 sc a w) Finset.univ (View.stores_vmem_bits_univ h_S64x64 rfl) (.inl rfl)) fun _ => k

/-- The product of the upper half that came by the ring to the left at the last hop. -/
def high (sc : F .f32) (k : P F) : P F :=
  origin true 15 fun v =>
  .op (.assume (k0_chk34 v) (k0_chk34.dec v)) fun hw =>
  .op (.load (slot true 16) (Rect.unit (s := S128x4096) ![64, 0] S64x4096.size inb_S128x4096_S64x4096_64_0).toLoadRect (View.loadsAt_vmem h_S64x4096)) fun a =>
  .op (.load (Memref.whole cc0_scratch2) (Rect.unit (s := S4096x64) ![0, 0] S4096x64.size inb_S4096x64_S4096x64_0_0).toLoadRect (View.loadsAt_vmem h_S4096x64)) fun w =>
  .op (.load (Memref.whole cc0_stg7_0) (Rect.unit (s := S4096x64) (k0_off33 v) S64x64.size (k0_off33_inb v hw.down)).toLoadRect (View.loadsAt_vmem h_S64x64)) fun _ =>
  .op (.store (Memref.whole cc0_stg7_0) (Rect.unit (s := S4096x64) (k0_off33 v) S64x64.size (k0_off33_inb v hw.down)) (k0_pay38 sc a w) Finset.univ (View.stores_vmem_bits_univ h_S64x64 rfl) (.inl rfl)) fun _ => k

/-- The fifteenth hop, which sends on one half of each direction only, and the last one, which
    multiplies the half that came from either side. -/
def lastHops (rt lt : Dev nD) (sc : F .f32) (k : P F) : P F :=
  waitRecv false 14 0 <| send false rt 15 0 <| waitRecv true 14 0 <|
  waitRecv false 14 1 <| waitRecv true 14 1 <| send true lt 15 1 <|
  gemm false 14 sc <| gemm true 14 sc <|
  waitSend true 14 0 <| waitSend true 14 1 <| waitSend false 14 0 <| waitSend false 14 1 <|
  waitRecv false 15 0 <| waitRecv true 15 1 <|
  low sc <| high sc <|
  waitSend true 15 1 <| waitSend false 15 0 k

/-- The product of the device's own block, after the weights are widened. -/
def own (sc : F .f32) (k : P F) : P F :=
  .op (.load (Memref.whole cc0_stg1_0) (Rect.unit (s := S4096x64) ![0, 0] S4096x64.size inb_S4096x64_S4096x64_0_0).toLoadRect (View.loadsAt_vmem h_S4096x64)) fun w8 =>
  .op (.load (Memref.whole cc0_scratch2) (Rect.unit (s := S4096x64) ![0, 0] S4096x64.size inb_S4096x64_S4096x64_0_0).toLoadRect (View.loadsAt_vmem h_S4096x64)) fun _ =>
  .op (.store (Memref.whole cc0_scratch2) (Rect.unit (s := S4096x64) ![0, 0] S4096x64.size inb_S4096x64_S4096x64_0_0) (k0_pay3 w8) Finset.univ (View.stores_vmem h_S4096x64 ((Memref.isWhole_whole (sig := sig) cc0_scratch2).storeExact_slice rfl _ packedbf16_S4096x64_S4096x64_0_0) (fun _ => rfl)) (.inl rfl)) fun _ =>
  .op .deviceId fun d =>
  .op (.load (Memref.whole cc0_stg0_0) (Rect.unit (s := S128x4096) ![0, 0] S128x4096.size inb_S128x4096_S128x4096_0_0).toLoadRect (View.loadsAt_vmem h_S128x4096)) fun a =>
  .op (.load (Memref.whole cc0_scratch2) (Rect.unit (s := S4096x64) ![0, 0] S4096x64.size inb_S4096x64_S4096x64_0_0).toLoadRect (View.loadsAt_vmem h_S4096x64)) fun w =>
  .op (.load (Memref.whole cc0_stg7_0) (Rect.unit (s := S4096x64) (k0_off1 d) S128x64.size (k0_off1_inb d)).toLoadRect (View.loadsAt_vmem h_S128x64)) fun _ =>
  .op (.store (Memref.whole cc0_stg7_0) (Rect.unit (s := S4096x64) (k0_off1 d) S128x64.size (k0_off1_inb d)) (k0_pay4 sc a w) Finset.univ (View.stores_vmem_bits_univ h_S128x64 rfl) (.inl rfl)) fun _ => k

/-- The handshake with both neighbours. -/
def shake (rt lt : Dev nD) (k : P F) : P F :=
  .op (.semSignal (lt, .tc) barS (1#32 : BitVec 32).toInt) fun _ =>
  .op (.semSignal (rt, .tc) barS (1#32 : BitVec 32).toInt) fun _ =>
  .op (.semWait barS (2#32 : BitVec 32).toInt) fun _ => k

/-- The two neighbours as the table names them, handed on. -/
def neighbours (k : Dev nD → Dev nD → P F) : P F :=
  .op (.load (Memref.whole cc0_stg4_0) (Rect.unit (s := S2) ![0] S1.size inb_S2_S1_0) (View.loadsAt_rect (View.loads_smem_one rfl numel1_S1))) fun f =>
  let v0 : Elt F .i32 := f (Shape.Idx.first (numel1_S1.symm ▸ Nat.one_pos))
  .op (.assume (k0_chk2 v0) (k0_chk2.dec v0)) fun hw2 =>
  .op (.load (Memref.whole cc0_stg4_0) (Rect.unit (s := S2) ![1] S1.size inb_S2_S1_1) (View.loadsAt_rect (View.loads_smem_one rfl numel1_S1))) fun f =>
  let v1 : Elt F .i32 := f (Shape.Idx.first (numel1_S1.symm ▸ Nat.one_pos))
  .op (.assume (k0_chk1 v1) (k0_chk1.dec v1)) fun hw1 =>
  k ⟨k0_dev3 v0, k0_dev3_lt v0 hw2.down⟩ ⟨k0_dev5 v1, k0_dev5_lt v1 hw1.down⟩

/-- The device's own block put into slot 0. -/
def place (k : P F) : P F :=
  .op (.load (Memref.whole cc0_stg0_0) (Rect.unit (s := S128x4096) ![0, 0] S128x4096.size inb_S128x4096_S128x4096_0_0).toLoadRect (View.loadsAt_vmem h_S128x4096)) fun a =>
  .op (.load (buf false) (Rect.unit (s := S17x128x4096) ![0, 0, 0] S1x128x4096.size inb_S17x128x4096_S1x128x4096_0_0_0).toLoadRect (View.loadsAt_vmem h_S1x128x4096)) fun _ =>
  .op (.store (buf false) (Rect.unit (s := S17x128x4096) ![0, 0, 0] S1x128x4096.size inb_S17x128x4096_S1x128x4096_0_0_0) (k0_pay1 a) Finset.univ (View.stores_vmem h_S1x128x4096 ((Memref.isWhole_whole (sig := sig) cc0_scratch0).storeExact_slice rfl _ packedfp8e4m3_S17x128x4096_S1x128x4096_0_0_0) (fun _ => rfl)) (.inl rfl)) fun _ => k

/-- The product of the two scales, handed on. -/
def scale (k : F .f32 → P F) : P F :=
  .op (.load (Memref.whole cc0_stg2_0) (Rect.unit (s := S1) ![0] S1.size inb_S1_S1_0) (View.loadsAt_rect (View.loads_smem_one rfl numel1_S1))) fun f =>
  .op (.load (Memref.whole cc0_stg3_0) (Rect.unit (s := S1) ![0] S1.size inb_S1_S1_0) (View.loadsAt_rect (View.loads_smem_one rfl numel1_S1))) fun g =>
  k (k0_pay2 (f (Shape.Idx.first (numel1_S1.symm ▸ Nat.one_pos))) (g (Shape.Idx.first (numel1_S1.symm ▸ Nat.one_pos))))

/-- The body: the handshake, the first sends, the product of the device's own block, and the hops. -/
def body : P F :=
  neighbours fun rt lt => place <| shake rt lt <| scale fun sc =>
  send false rt 0 0 <| send false rt 0 1 <| send true lt 0 0 <| send true lt 0 1 <|
  own sc <| hops rt lt sc (lastHops rt lt sc (.ret ⟨⟩)) 14 (le_refl _)

/-- The printed body is this program. -/
theorem body_eq : bodyAt0 (F := F) t0_0 = body := by chain_rfl

end Cert.KernelIdeal.Ring
-- ==== Proof.Cells.lean ====
/- The protocol of the two rings: which device signals or copies onto which semaphore, how much, in
   what order, and the contents each landing hands over.

   * Handshake semaphore of device `c`: one round of two duties. The duty named `d` is paid by the
     neighbour `nb d c` to which `c` sends in direction `d`; it hands over the neighbour's slots that
     `c` will write, at any contents, and that the neighbour's landing semaphores stand at round 0.
   * Landing semaphore `n = 2h + j` of direction `d` on `c`: one round of one duty, paid by the
     landing of half `j` in slot `h + 1`; it hands over that half, holding the block of the device
     `h + 1` places back along the direction.
   * Sending semaphore `n = 2h + j` of direction `d` on `c`: one round of one duty, paid when the
     send of half `j` out of slot `h` has been read; it hands the lent share of that half back. -/
module

public import proofs.«01_k».proof.Proof.Hops
public import Idealize.ShloMosaic.Lib.Pipeline.Launch
public import Idealize.ShloMosaic.Lib.Pipeline.Kit
public import Idealize.ShloMosaic.Lib.Tactic
public import Idealize.ShloMosaic.Lib.ValueLayout
public import Mathlib.Algebra.BigOperators.Intervals

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

/-- The ghost state: the pipeline library's rounds and the rings'. -/
abbrev UU : Type := UR sig nD τ × URounds (GSem nD τ sig) Bool

local notation "𝕄" => MT nD τ sig Unit (Elt F) ℕ UU ℕ

/-- The pipeline library's part of the ghost state. -/
abbrev EP : Emb (UR sig nD τ) (MT nD τ sig Unit (Elt F) ℕ UU ℕ) := embL
/-- The rings' part of the ghost state. -/
abbrev ER : Emb (URounds (GSem nD τ sig) Bool) (MT nD τ sig Unit (Elt F) ℕ UU ℕ) := embR

/-! ## The ring of 32 devices -/

/-- The devices in the order in which the ring runs through them. -/
def devAt (p : ℕ) : Dev nD :=
  (![0, 8, 16, 24, 27, 19, 11, 3, 4, 12, 20, 28, 31, 23, 15, 7, 6, 14, 22, 30, 29, 21, 13, 5, 2, 10, 18, 26, 25, 17, 9, 1] : Fin 32 → Fin 32)
    ⟨p % 32, Nat.mod_lt _ (by decide)⟩

/-- A device's place in the ring. -/
def pos (c : Dev nD) : ℕ :=
  (![0, 31, 24, 7, 8, 23, 16, 15, 1, 30, 25, 6, 9, 22, 17, 14, 2, 29, 26, 5, 10, 21, 18, 13, 3, 28, 27, 4, 11, 20, 19, 12] : Fin 32 → ℕ) c

theorem dev_lt (c : Dev nD) : c.val < 32 := c.isLt

theorem pos_lt (c : Dev nD) : pos c < 32 := by revert c; decide +kernel

theorem devAt_mod (p : ℕ) : devAt (p % 32) = devAt p := by
  unfold devAt; congr 1; exact Fin.ext (Nat.mod_mod _ _)

theorem pos_devAt (p : ℕ) : pos (devAt p) = p % 32 := by
  rw [← devAt_mod]
  have h : ∀ q : Fin 32, pos (devAt q.val) = q.val := by decide +kernel
  exact h ⟨p % 32, Nat.mod_lt _ (by decide)⟩

theorem devAt_pos (c : Dev nD) : devAt (pos c) = c := by revert c; decide +kernel

theorem pos_inj {c o : Dev nD} (h : pos c = pos o) : c = o := by rw [← devAt_pos c, h, devAt_pos]

/-- The device `c` sends to in direction `d`. -/
def nb : Bool → Dev nD → Dev nD
  | false, c => devAt (pos c + 1)
  | true, c => devAt (pos c + 31)

/-- The device whose block `c` has in slot `s` of direction `d`: `s` places back along the direction. -/
def org : Bool → Dev nD → ℕ → Dev nD
  | false, c, s => devAt (pos c + 31 * s)
  | true, c, s => devAt (pos c + s)

/-- The device across the ring. -/
def across (c : Dev nD) : Dev nD := devAt (pos c + 16)

theorem pos_across (c : Dev nD) : pos (across c) = (pos c + 16) % 32 := pos_devAt _

theorem nb_nb (d : Bool) (c : Dev nD) : nb d (nb (!d) c) = c := by
  have h := pos_lt c
  cases d <;> refine pos_inj ?_ <;> simp only [nb, Bool.not_true, Bool.not_false, pos_devAt] <;> omega

theorem nb_nb' (d : Bool) (c : Dev nD) : nb (!d) (nb d c) = c := by
  have := nb_nb (!d) c; rwa [Bool.not_not] at this

theorem nb_ne (c : Dev nD) : nb false c ≠ nb true c := by
  intro h; have := congrArg pos h; simp only [nb, pos_devAt] at this; have := pos_lt c; omega

/-- The ring's step as a bijection of the devices. -/
def step (d : Bool) : Dev nD ≃ Dev nD := ⟨nb d, nb (!d), nb_nb' d, nb_nb d⟩

theorem org_zero (d : Bool) (c : Dev nD) : org d c 0 = c := by
  have h := pos_lt c
  cases d <;> refine pos_inj ?_ <;> simp only [org, pos_devAt] <;> omega

theorem org_succ (d : Bool) (c : Dev nD) (s : ℕ) : org d (nb d c) (s + 1) = org d c s := by
  have h := pos_lt c
  cases d <;> refine pos_inj ?_ <;> simp only [org, nb, pos_devAt] <;> omega

theorem org_across (d : Bool) (c : Dev nD) : org d c 16 = across c := by
  cases d <;> refine pos_inj ?_ <;> simp only [org, across, pos_devAt] <;> omega

/-- At the hops before the last, the block is neither the device's own nor that of the device across. -/
theorem org_ne (d : Bool) (c : Dev nD) {s : ℕ} (h0 : 0 < s) (h1 : s < 16) : org d c s ≠ c ∧ org d c s ≠ across c := by
  have h := pos_lt c
  constructor <;> intro e <;> have := congrArg pos e <;> cases d <;> simp only [org, across, pos_devAt] at this <;> omega

/-- The place in the ring of the device that row `r` of the result belongs to. -/
def rowPos (r : ℕ) : ℕ := pos ⟨r / 128 % 32, Nat.mod_lt _ (by decide)⟩

theorem rowPos_lt (r : ℕ) : rowPos r < 32 := pos_lt _

theorem rowPos_eq {r : ℕ} (hr : r < 4096) {o : Dev nD} (h : rowPos r = pos o) : r / 128 = o.val := by
  have := congrArg Fin.val (pos_inj h)
  have e : r / 128 % 32 = o.val := this
  omega

/-! ## Semaphores and cells -/

/-- The last transfer of a direction: of hop 15 only one half goes. -/
abbrev lastN : Bool → ℕ | false => 30 | true => 31
/-- Transfer `n` of a direction happens. -/
abbrev used (d : Bool) (n : ℕ) : Prop := n < 30 ∨ n = lastN d

theorem used_lt {d : Bool} {n : ℕ} (h : used d n) : n < 32 := by
  rcases h with h | h
  · omega
  · cases d <;> simp only [lastN] at h <;> omega

/-- The semaphore of send `n`. -/
def sendS (d : Bool) (n : ℕ) : DmaSem sig := ⟨8 + 64 * d.toNat + n % 32, by show _ < 136; cases d <;> simp <;> omega⟩
/-- The semaphore of landing `n`. -/
def recvS (d : Bool) (n : ℕ) : DmaSem sig := ⟨40 + 64 * d.toNat + n % 32, by show _ < 136; cases d <;> simp <;> omega⟩

set_option maxRecDepth 100000 in
theorem semOf_send (d : Bool) (n : Fin 32) : semOf (sendArr d) n = sendS d n.val := by
  revert n; cases d <;> decide
set_option maxRecDepth 100000 in
theorem semOf_recv (d : Bool) (n : Fin 32) : semOf (recvArr d) n = recvS d n.val := by
  revert n; cases d <;> decide

/-- A device's handshake cell, -/
abbrev barC (c : Dev nD) : GSem nD τ sig := ((c : Thread nD τ), .reg barS)
/-- its cell of send `n`, -/
abbrev sendC (d : Bool) (n : ℕ) (c : Dev nD) : GSem nD τ sig := ((c : Thread nD τ), .dma (sendS d n))
/-- its cell of landing `n`. -/
abbrev recvC (d : Bool) (n : ℕ) (c : Dev nD) : GSem nD τ sig := ((c : Thread nD τ), .dma (recvS d n))

/-- What a semaphore is for. -/
inductive Kind | bar | send (d : Bool) (n : ℕ) | recv (d : Bool) (n : ℕ) | other

/-- The use of each semaphore, by its number. -/
def kindOf : SemLoc sig → Kind
  | .reg s => if s = barS then .bar else .other
  | .dma q =>
    if q.val < 8 then .other else if q.val < 40 then .send false (q.val - 8) else if q.val < 72 then .recv false (q.val - 40)
    else if q.val < 104 then .send true (q.val - 72) else .recv true (q.val - 104)

theorem kind_bar : kindOf (.reg barS) = .bar := by unfold kindOf; exact if_pos rfl

theorem kind_send (d : Bool) {n : ℕ} (hn : n < 32) : kindOf (.dma (sendS d n)) = .send d n := by
  cases d <;> simp only [kindOf, sendS, Bool.toNat_false, Bool.toNat_true, Nat.mod_eq_of_lt hn]
  · rw [if_neg (by omega), if_pos (by omega)]; congr 1; omega
  · rw [if_neg (by omega), if_neg (by omega), if_neg (by omega), if_pos (by omega)]; congr 1; omega

theorem kind_recv (d : Bool) {n : ℕ} (hn : n < 32) : kindOf (.dma (recvS d n)) = .recv d n := by
  cases d <;> simp only [kindOf, recvS, Bool.toNat_false, Bool.toNat_true, Nat.mod_eq_of_lt hn]
  · rw [if_neg (by omega), if_neg (by omega), if_pos (by omega)]; congr 1; omega
  · rw [if_neg (by omega), if_neg (by omega), if_neg (by omega), if_neg (by omega)]; congr 1; omega

/-! ## The slots and what they hold -/

/-- The elements of half `j` of slot `s`. -/
def HS (s j : ℕ) : Finset S17x128x4096.Idx := Finset.univ.filter fun i => (i 0).val = s ∧ (i 1).val / 64 = j

/-- What a direction's slots hold once all has landed: slot `s` the block of the device `s` places back. -/
def blk (X : Dev nD → S128x4096.Idx → Elt F .fp8e4m3) (d : Bool) (c : Dev nD) : S17x128x4096.Idx → Elt F .fp8e4m3 :=
  fun i => X (org d c (i 0).val) (ix2 (i 1) (i 2))

/-- A share of some elements of a direction's slots on a device, at some contents. -/
def pt (d : Bool) (c : Dev nD) (S : Finset S17x128x4096.Idx) (q : PosShare TreeShare)
    (f : S17x128x4096.Idx → Elt F .fp8e4m3) : sProp 𝕄 :=
  match d with
  | false => ((c : Thread nD τ).loc cc0_scratch0) ↦[S]{q} f
  | true => ((c : Thread nD τ).loc cc0_scratch1) ↦[S]{q} f

omit [FloatOps F] in
instance pt_storable (d : Bool) (c : Dev nD) (S) (q) (f) : BI.Storable (upEmb : UEmb _ 𝕄) (pt (F := F) d c S q f) := by
  cases d <;> (unfold pt; infer_instance)

/-- Transfer `n`'s landing place: half `n % 2` of slot `n / 2 + 1`. -/
abbrev LS (n : ℕ) : Finset S17x128x4096.Idx := HS (n / 2 + 1) (n % 2)

/-- The share lent to send `n`: its half's left share; the first sends to the left take the right
    share of slot 0 of the ring to the right. -/
def srcPts (X : Dev nD → S128x4096.Idx → Elt F .fp8e4m3) (d : Bool) (n : ℕ) (c : Dev nD) : sProp 𝕄 :=
  if d = true ∧ n / 2 = 0 then pt false c (HS 0 (n % 2)) fullShare.right (blk X false c)
  else pt d c (HS (n / 2) (n % 2)) fullShare.left (blk X d c)

omit [FloatOps F] in
instance srcPts_storable (X) (d : Bool) (n : ℕ) (c : Dev nD) : BI.Storable (upEmb : UEmb _ 𝕄) (srcPts (F := F) X d n c) := by
  unfold srcPts; split <;> infer_instance

/-- The transfers of a direction from `k` on, one assertion each. -/
def fam (d : Bool) (k : ℕ) (Φ : ℕ → sProp 𝕄) : sProp 𝕄 := iprop(bigSep (Finset.Ico k 30) Φ ∗ Φ (lastN d))

/-- What the neighbour hands over at the handshake. -/
def barPay (d : Bool) (c : Dev nD) : sProp 𝕄 :=
  fam d 0 fun n => iprop((∃ f, pt d (nb d c) (LS n) fullShare f) ∗ reached ER (recvC d n (nb d c)) 0)

omit [FloatOps F] in
instance barPay_storable (d : Bool) (c : Dev nD) : BI.Storable (upEmb : UEmb _ 𝕄) (barPay (F := F) d c) := by
  unfold barPay fam; infer_instance

/-- The bytes' credit of one transfer. -/
abbrev N : ℕ := (half false 0 0).view.dmaCredit
theorem N_pos : 0 < N := View.dmaCredit_pos _ (by decide)

/-! ## The schedule -/

section Sched
variable (X : Dev nD → S128x4096.Idx → Elt F .fp8e4m3)

/-- One round: what each cell is paid, by how many duties, and what each payment hands over. -/
def rd : Rounds.Schedule (GSem nD τ sig) Bool 𝕄 where
  duties g r := if r = 0 ∧ g.1.2 = .tc then
      (match kindOf g.2 with
      | .bar => Finset.univ
      | .send d n => if used d n then {false} else ∅
      | .recv d n => if used d n then {false} else ∅
      | .other => ∅)
    else ∅
  unitless _ := False
  amount g _ _ := match kindOf g.2 with | .bar => 1 | _ => N
  payload g _ b := match kindOf g.2 with
    | .bar => barPay b g.1.1
    | .send d n => srcPts X d n g.1.1
    | .recv d n => pt d g.1.1 (LS n) fullShare (blk X d g.1.1)
    | .other => iprop(emp)
  amount_pos g _ _ _ := by
    show 0 < (match kindOf g.2 with | .bar => 1 | _ => N)
    split
    · exact Nat.one_pos
    · exact N_pos

instance rd_storable (g : GSem nD τ sig) (r : ℕ) (b : Bool) :
    BI.Storable (upEmb : UEmb _ 𝕄) ((rd (F := F) X).payload g r b) := by
  show BI.Storable upEmb (match kindOf g.2 with
    | .bar => barPay b g.1.1
    | .send d n => srcPts X d n g.1.1
    | .recv d n => pt d g.1.1 (LS n) fullShare (blk X d g.1.1)
    | .other => iprop(emp))
  split <;> infer_instance

variable (c : Dev nD) (d : Bool) {n : ℕ}

theorem duties_bar : (rd (F := F) X).duties (barC c) 0 = Finset.univ := by
  dsimp only [rd]; rw [if_pos ⟨rfl, rfl⟩, kind_bar]
theorem duties_send (h : used d n) : (rd (F := F) X).duties (sendC d n c) 0 = {false} := by
  dsimp only [rd]; rw [if_pos ⟨rfl, rfl⟩, kind_send d (used_lt h)]; exact if_pos h
theorem duties_recv (h : used d n) : (rd (F := F) X).duties (recvC d n c) 0 = {false} := by
  dsimp only [rd]; rw [if_pos ⟨rfl, rfl⟩, kind_recv d (used_lt h)]; exact if_pos h
theorem duties_send_idle (hn : n < 32) (h : ¬ used d n) (r : ℕ) : (rd (F := F) X).duties (sendC d n c) r = ∅ := by
  dsimp only [rd]; split
  · rw [kind_send d hn]; exact if_neg h
  · rfl
theorem duties_recv_idle (hn : n < 32) (h : ¬ used d n) (r : ℕ) : (rd (F := F) X).duties (recvC d n c) r = ∅ := by
  dsimp only [rd]; split
  · rw [kind_recv d hn]; exact if_neg h
  · rfl
theorem duties_later (g : GSem nD τ sig) : ∀ r, 1 ≤ r → (rd (F := F) X).duties g r = ∅ :=
  fun r hr => by dsimp only [rd]; rw [if_neg fun h => by omega]

theorem amount_bar (b : Bool) : (rd (F := F) X).amount (barC c) 0 b = 1 := by dsimp only [rd]; rw [kind_bar]
theorem amount_send (hn : n < 32) (b : Bool) : (rd (F := F) X).amount (sendC d n c) 0 b = N := by
  dsimp only [rd]; rw [kind_send d hn]
theorem amount_recv (hn : n < 32) (b : Bool) : (rd (F := F) X).amount (recvC d n c) 0 b = N := by
  dsimp only [rd]; rw [kind_recv d hn]

theorem expect_bar : (rd (F := F) X).expect (barC c) 0 = 2 := by
  unfold Schedule.expect Schedule.amountOf
  rw [duties_bar, Finset.sum_congr rfl fun b _ => amount_bar X c b, Finset.sum_const, Finset.card_univ, Fintype.card_bool, smul_eq_mul]
theorem expect_send (h : used d n) : (rd (F := F) X).expect (sendC d n c) 0 = N := by
  unfold Schedule.expect Schedule.amountOf; rw [duties_send X c d h, Finset.sum_singleton, amount_send X c d (used_lt h)]
theorem expect_recv (h : used d n) : (rd (F := F) X).expect (recvC d n c) 0 = N := by
  unfold Schedule.expect Schedule.amountOf; rw [duties_recv X c d h, Finset.sum_singleton, amount_recv X c d (used_lt h)]

theorem payload_bar (b : Bool) : (rd (F := F) X).payload (barC c) 0 b = barPay b c := by dsimp only [rd]; rw [kind_bar]
theorem payload_send (hn : n < 32) (b : Bool) : (rd (F := F) X).payload (sendC d n c) 0 b = srcPts X d n c := by
  dsimp only [rd]; rw [kind_send d hn]
theorem payload_recv (hn : n < 32) (b : Bool) :
    (rd (F := F) X).payload (recvC d n c) 0 b = pt d c (LS n) fullShare (blk X d c) := by
  dsimp only [rd]; rw [kind_recv d hn]

/-- What the handshake's wait hands over: both neighbours' slots. -/
theorem rest_bar : bigSep ((rd (F := F) X).duties (barC c) 0 \ ∅) (fun b => (rd (F := F) X).payload (barC c) 0 b)
    = iprop(barPay false c ∗ barPay true c) := by
  rw [Finset.sdiff_empty, duties_bar, bigSep_univ_eq_bigSepL [false, true] (by decide) (by decide), bigSepL_cons_cons, bigSepL_singleton,
    payload_bar, payload_bar]
  rfl
theorem rest_send (h : used d n) : bigSep ((rd (F := F) X).duties (sendC d n c) 0 \ ∅) (fun b => (rd (F := F) X).payload (sendC d n c) 0 b)
    = srcPts X d n c := by
  rw [Finset.sdiff_empty, duties_send X c d h, bigSep_singleton, payload_send X c d (used_lt h)]
theorem rest_recv (h : used d n) : bigSep ((rd (F := F) X).duties (recvC d n c) 0 \ ∅) (fun b => (rd (F := F) X).payload (recvC d n c) 0 b)
    = pt d c (LS n) fullShare (blk X d c) := by
  rw [Finset.sdiff_empty, duties_recv X c d h, bigSep_singleton, payload_recv X c d (used_lt h)]

end Sched

/-! ## What is owed, and the order of the waits -/

/-- What device `c` owes for the sends of direction `d` from `k` on. -/
def Od (d : Bool) (c : Dev nD) (k : ℕ) : CellTallies nD τ sig Unit :=
  (∑ n ∈ Finset.Ico k 30, tallyAt (recvC d n (nb d c)) () N) + tallyAt (recvC d (lastN d) (nb d c)) () N

/-- What device `c` owes at launch: all its sends and one unit to either neighbour's handshake. -/
def O₀ (c : Dev nD) : CellTallies nD τ sig Unit :=
  Od false c 0 + Od true c 0 + tallyAt (barC (nb false c)) () 1 + tallyAt (barC (nb true c)) () 1

/-- Every cell of a kernel's processor is counted. -/
def L (g : GSem nD τ sig) : Finset Unit := if g.1.2 = .tc then {()} else ∅
/-- The order: staging and sends first, then the handshake, then the landings hop by hop. -/
def lv (g : GSem nD τ sig) (_ : Unit) : ℕ := match kindOf g.2 with | .bar => 1 | .recv _ n => 2 + n / 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barC c) () = 1 := by dsimp only [lv]; rw [kind_bar]
theorem lv_send (d : Bool) {n : ℕ} (hn : n < 32) (c : Dev nD) : lv (sendC d n c) () = 0 := by dsimp only [lv]; rw [kind_send d hn]
theorem lv_recv (d : Bool) {n : ℕ} (hn : n < 32) (c : Dev nD) : lv (recvC d n c) () = 2 + n / 2 := by
  dsimp only [lv]; rw [kind_recv d hn]

theorem tallyAt_pos {g g' : GSem nD τ sig} {u : Unit} {k : ℕ} (h : 0 < (tallyAt g () k : CellTallies nD τ sig Unit) g' u) : g' = g := by
  rw [tallyAt_apply] at h
  by_contra hn
  rw [if_neg (fun h' => hn h'.1)] at h
  exact Nat.lt_irrefl 0 h

theorem Od_pos {d : Bool} {c : Dev nD} {k : ℕ} (hk : k ≤ 30) {g : GSem nD τ sig} {u : Unit} (h : 0 < Od d c k g u) :
    ∃ n, k ≤ n ∧ n < 32 ∧ g = recvC d n (nb d c) := by
  unfold Od at h
  rw [Pi.add_apply, Finsupp.add_apply] at h
  rcases Nat.lt_or_ge 0 (tallyAt (recvC d (lastN d) (nb d c)) () N g u) with h' | h'
  · exact ⟨lastN d, by cases d <;> simp only [lastN] <;> omega, used_lt (.inr rfl), tallyAt_pos h'⟩
  · have h2 : 0 < (∑ n ∈ Finset.Ico k 30, (tallyAt (recvC d n (nb d c)) () N : CellTallies nD τ sig Unit)) g u := by omega
    rw [Finset.sum_apply, Finsupp.finset_sum_apply] at h2
    obtain ⟨n, hn, hp⟩ := Finset.exists_ne_zero_of_sum_ne_zero (Nat.pos_iff_ne_zero.1 h2)
    rw [Finset.mem_Ico] at hn
    exact ⟨n, hn.1, by omega, tallyAt_pos (Nat.pos_of_ne_zero hp)⟩

/-- The sends from `k` on are the next one and the rest. -/
theorem Od_step (d : Bool) (c : Dev nD) {k : ℕ} (hk : k < 30) :
    Od d c k = Od d c (k + 1) + tallyAt (recvC d k (nb d c)) () N := by
  unfold Od; rw [Finset.sum_eq_sum_Ico_succ_bot hk]; ac_rfl

theorem Od_last (d : Bool) (c : Dev nD) : Od d c 30 = tallyAt (recvC d (lastN d) (nb d c)) () N := by
  unfold Od; rw [Finset.Ico_self, Finset.sum_empty, zero_add]

/-- A wait on a cell is allowed while only cells later in the order are owed. -/
theorem mayWait {c : Dev nD} {sm : SemLoc sig} {O : CellTallies nD τ sig Unit}
    (h : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by rw [show L g = {()} from if_pos (h g u hg).1]; exact Finset.mem_singleton_self _)
    (fun p hp => by rw [Finset.mem_singleton.mp hp])
    (fun g u hg => (h g u hg).2)

/-- The waits of the hops: below every send still owed. -/
theorem mayWait_sends {c : Dev nD} {sm : SemLoc sig} {k k' : ℕ} (hk : k ≤ 30) (hk' : k' ≤ 30)
    (h : lv ((c : Thread nD τ), sm) () < 2 + k / 2) (h' : lv ((c : Thread nD τ), sm) () < 2 + k' / 2) :
    (levAts L lv : sProp 𝕄) ⊢ MayWait (c : Thread nD τ) sm () (Od false c k + Od true c k') :=
  mayWait fun g u hg => by
    rw [Pi.add_apply, Finsupp.add_apply] at hg
    rcases Nat.lt_or_ge 0 (Od false c k g u) with hp | hp
    · obtain ⟨n, h1, h2, rfl⟩ := Od_pos hk hp
      refine ⟨rfl, ?_⟩; rw [lv_recv _ h2]; have := Nat.div_le_div_right (c := 2) h1; omega
    · obtain ⟨n, h1, h2, rfl⟩ := Od_pos hk' (show 0 < Od true c k' g u by omega)
      refine ⟨rfl, ?_⟩; rw [lv_recv _ h2]; have := Nat.div_le_div_right (c := 2) h1; omega

end Cert.KernelIdeal.Ring
-- ==== Proof.Views.lean ====
/- The views of the slots: which elements a half and a slot name, what a transfer leaves in the
   neighbour's half, what the products read, and how whole slots are split and put together. -/
module

public import proofs.«01_k».proof.Proof.Cells

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

theorem mem_HS {s j : ℕ} {i : S17x128x4096.Idx} : i ∈ HS s j ↔ (i 0).val = s ∧ (i 1).val / 64 = j := by
  unfold HS; rw [Finset.mem_filter]; exact ⟨fun h => h.2, fun h => ⟨Finset.mem_univ _, h⟩⟩

theorem HS_disjoint {s j s' j' : ℕ} (h : ¬(s = s' ∧ j = j')) : Disjoint (HS s j) (HS s' j') := by
  rw [Finset.disjoint_left]; intro i hi hi'
  rw [mem_HS] at hi hi'
  exact h ⟨hi.1.symm.trans hi'.1, hi.2.symm.trans hi'.2⟩

/-- The rectangle of a half holds the half's elements. -/
theorem rectH_set (s : Fin 17) (j : Fin 2) : (rectH s j).set = HS s.val j.val := by
  ext i
  have h2 : (i 2).val < 4096 := (i 2).isLt
  have h1 : (i 1).val < 128 := (i 1).isLt
  rw [Rect.mem_set_unit, mem_HS, Fin.forall_fin_succ, Fin.forall_fin_succ, Fin.forall_fin_succ]
  constructor
  · rintro ⟨⟨a, b⟩, ⟨e, f⟩, -⟩
    have a' : s.val ≤ (i 0).val := a
    have b' : (i 0).val < s.val + 1 := b
    have e' : 64 * j.val ≤ (i 1).val := e
    have f' : (i 1).val < 64 * j.val + 64 := f
    omega
  · rintro ⟨a, b⟩
    refine ⟨⟨?_, ?_⟩, ⟨?_, ?_⟩, ⟨?_, ?_⟩, fun k => k.elim0⟩
    · show s.val ≤ (i 0).val; omega
    · show (i 0).val < s.val + 1; omega
    · show 64 * j.val ≤ (i 1).val; omega
    · show (i 1).val < 64 * j.val + 64; omega
    · show 0 ≤ (i 2).val; omega
    · show (i 2).val < 0 + 4096; omega

theorem half_set_r (s : Fin 17) (j : Fin 2) : (half false s j).view.set = HS s.val j.val :=
  (View.set_reshape _ _).trans ((View.set_slice_whole _ _).trans (rectH_set s j))
theorem half_set_l (s : Fin 17) (j : Fin 2) : (half true s j).view.set = HS s.val j.val :=
  (View.set_reshape _ _).trans ((View.set_slice_whole _ _).trans (rectH_set s j))

/-- Where a half's element `y` lies. -/
theorem rectH_emb (s : Fin 17) (j : Fin 2) (y : S1x64x4096.Idx) :
    ((rectH s j).emb y 0).val = s.val ∧ ((rectH s j).emb y 1).val = 64 * j.val + (y 1).val ∧ ((rectH s j).emb y 2).val = (y 2).val := by
  have h0 : (y 0).val < 1 := (y 0).isLt
  refine ⟨?_, ?_, ?_⟩
  · show s.val + 1 * (y 0).val = _; omega
  · show 64 * j.val + 1 * (y 1).val = _; omega
  · show 0 + 1 * (y 2).val = _; omega

section Blk
variable (X : Dev nD → S128x4096.Idx → Elt F .fp8e4m3) (d : Bool) (c : Dev nD)

/-- The neighbour's next slot holds what this device's slot holds. -/
theorem blk_step {i i' : S17x128x4096.Idx} (h0 : (i' 0).val = (i 0).val + 1) (h1 : (i' 1).val = (i 1).val) (h2 : (i' 2).val = (i 2).val) :
    blk X d (nb d c) i' = blk X d c i := by
  unfold blk
  rw [h0, org_succ, show i' 1 = i 1 from Fin.ext h1, show i' 2 = i 2 from Fin.ext h2]

/-- Slot 0 holds the device's own block in either direction. -/
theorem blk_zero {i : S17x128x4096.Idx} (h0 : (i 0).val = 0) : blk X true c i = blk X false c i := by
  unfold blk; rw [h0, org_zero, org_zero]

/-- A transfer from half `j` of slot `s` leaves half `j` of slot `s + 1` of the neighbour as stated. -/
theorem land_emb (s s' : Fin 17) (hs : s'.val = s.val + 1) (j : Fin 2) (y : S1x64x4096.Idx) :
    blk X d c ((rectH s j).emb y) = blk X d (nb d c) ((rectH s' j).emb y) := by
  obtain ⟨a0, a1, a2⟩ := rectH_emb s j y
  obtain ⟨b0, b1, b2⟩ := rectH_emb s' j y
  exact (blk_step X d c (by omega) (by omega) (by omega)).symm

end Blk

/-! ## Slots as the products read them -/

/-- The elements of a slot. -/
abbrev SS (s : ℕ) : Finset S17x128x4096.Idx := HS s 0 ∪ HS s 1

theorem rectS_emb (s : Fin 17) (y : S128x4096.Idx) (h : S128x4096.numel = S1x128x4096.numel) :
    ((rectS s).emb (Shape.reshapeEquiv h y) 0).val = s.val ∧ ((rectS s).emb (Shape.reshapeEquiv h y) 1) = y 0
      ∧ ((rectS s).emb (Shape.reshapeEquiv h y) 2) = y 1 := by
  have e : Shape.reshapeEquiv h y = ix3 (⟨0, Nat.one_pos⟩ : Fin 1) (y 0) (y 1) := by
    rw [show y = ix2 (y 0) (y 1) from funext fun a => by fin_cases a <;> rfl]
    exact reshapeEquiv_ix2_1ab (a := 128) (b := 4096) h (y 0) (y 1)
  rw [e]
  refine ⟨?_, Fin.ext ?_, Fin.ext ?_⟩
  · show s.val + 1 * 0 = _; omega
  · show 0 + 1 * (y 0).val = _; omega
  · show 0 + 1 * (y 1).val = _; omega

section Read
variable (X : Dev nD → S128x4096.Idx → Elt F .fp8e4m3) (c : Dev nD)

theorem blk_slot (d : Bool) (s : Fin 17) (y : S128x4096.Idx) (h : S128x4096.numel = S1x128x4096.numel) :
    blk X d c ((rectS s).emb (Shape.reshapeEquiv h y)) = X (org d c s.val) y := by
  obtain ⟨e0, e1, e2⟩ := rectS_emb s y h
  unfold blk; rw [e0, e1, e2]
  exact congrArg _ (funext fun a => by fin_cases a <;> rfl)

/-- A slot read through a rectangle is the block it holds, read there. -/
theorem read_slot_r (s : Fin 17) (r : Rect S128x4096) :
    ((slot false s).access r).read (Elt F) (blk X false c) = fun x => X (org false c s.val) (r.emb x) :=
  funext fun x => blk_slot X c false s (r.emb x) _
theorem read_slot_l (s : Fin 17) (r : Rect S128x4096) :
    ((slot true s).access r).read (Elt F) (blk X true c) = fun x => X (org true c s.val) (r.emb x) :=
  funext fun x => blk_slot X c true s (r.emb x) _

end Read

/-- The elements a rectangle of a slot names: those of the rows it takes. -/
theorem slot_mem (s : Fin 17) (r : Rect S128x4096) (T : Finset S17x128x4096.Idx) (h : S128x4096.numel = S1x128x4096.numel)
    (hT : ∀ x : r.shape.Idx, ∀ i : S17x128x4096.Idx, (i 0).val = s.val → (i 1).val = ((r.emb x) 0).val → i ∈ T) (x : r.shape.Idx) :
    (rectS s).emb (Shape.reshapeEquiv h (r.emb x)) ∈ T := by
  obtain ⟨e0, e1, e2⟩ := rectS_emb s (r.emb x) h
  exact hT x _ e0 (by rw [e1])

theorem slot_sub_r (s : Fin 17) (r : Rect S128x4096) (T : Finset S17x128x4096.Idx)
    (hT : ∀ x : r.shape.Idx, ∀ i : S17x128x4096.Idx, (i 0).val = s.val → (i 1).val = ((r.emb x) 0).val → i ∈ T) :
    ((slot false s).access r).set ⊆ T := by
  intro i hi
  obtain ⟨x, -, rfl⟩ := Finset.mem_map.1 hi
  exact slot_mem s r T _ hT x
theorem slot_sub_l (s : Fin 17) (r : Rect S128x4096) (T : Finset S17x128x4096.Idx)
    (hT : ∀ x : r.shape.Idx, ∀ i : S17x128x4096.Idx, (i 0).val = s.val → (i 1).val = ((r.emb x) 0).val → i ∈ T) :
    ((slot true s).access r).set ⊆ T := by
  intro i hi
  obtain ⟨x, -, rfl⟩ := Finset.mem_map.1 hi
  exact slot_mem s r T _ hT x

/-! ## Halves as the transfers name them -/

theorem N_half (d : Bool) (s : Fin 17) (j : Fin 2) : (half d s j).view.dmaCredit = N := by cases d <;> rfl

section Half
variable (c : Dev nD) (s : Fin 17) (j : Fin 2)

theorem pt_half_r (q : PosShare TreeShare) (f : S17x128x4096.Idx → Elt F .fp8e4m3) :
    ((half false s j).view.loc (c : Thread nD τ) ↦[(half false s j).view.set]{q} f : sProp 𝕄) = pt false c (HS s.val j.val) q f := by
  rw [half_set_r]; rfl
theorem pt_half_l (q : PosShare TreeShare) (f : S17x128x4096.Idx → Elt F .fp8e4m3) :
    ((half true s j).view.loc (c : Thread nD τ) ↦[(half true s j).view.set]{q} f : sProp 𝕄) = pt true c (HS s.val j.val) q f := by
  rw [half_set_l]; rfl

variable (X : Dev nD → S128x4096.Idx → Elt F .fp8e4m3) (fd : S17x128x4096.Idx → Elt F .fp8e4m3) (w : S64x4096.Idx → Elt F .fp8e4m3)

/-- A half written with what the neighbour's block has there holds that. -/
theorem landed_r (hw : ∀ x, w x = blk X false c ((half false s j).view.emb x)) :
    ((half false s j).view.loc (c : Thread nD τ) ↦[(half false s j).view.set]{fullShare} ((half false s j).view.write (Elt F) fd w Finset.univ))
      ⊢ (pt false c (HS s.val j.val) fullShare (blk X false c) : sProp 𝕄) := by
  rw [← pt_half_r]
  refine Entails.of_eq (pointsTo_congr fun i hi => ?_)
  obtain ⟨x, -, rfl⟩ := Finset.mem_map.1 hi
  exact (View.write_emb_of_mem (v := (half false s j).view) fd w (Finset.mem_univ x)).trans (hw x)
theorem landed_l (hw : ∀ x, w x = blk X true c ((half true s j).view.emb x)) :
    ((half true s j).view.loc (c : Thread nD τ) ↦[(half true s j).view.set]{fullShare} ((half true s j).view.write (Elt F) fd w Finset.univ))
      ⊢ (pt true c (HS s.val j.val) fullShare (blk X true c) : sProp 𝕄) := by
  rw [← pt_half_l]
  refine Entails.of_eq (pointsTo_congr fun i hi => ?_)
  obtain ⟨x, -, rfl⟩ := Finset.mem_map.1 hi
  exact (View.write_emb_of_mem (v := (half true s j).view) fd w (Finset.mem_univ x)).trans (hw x)

end Half

/-! ## Splitting and joining -/

section Pt
variable (d : Bool) (c : Dev nD)

theorem pt_union {A B : Finset S17x128x4096.Idx} (h : Disjoint A B) (q : PosShare TreeShare) (f : S17x128x4096.Idx → Elt F .fp8e4m3) :
    (pt d c (A ∪ B) q f : sProp 𝕄) = iprop(pt d c A q f ∗ pt d c B q f) := by
  cases d <;> exact BI.Entails.antisymm (pointsTo_union h).1 (pointsTo_union h).2

theorem pt_congr {A : Finset S17x128x4096.Idx} {q : PosShare TreeShare} {f g : S17x128x4096.Idx → Elt F .fp8e4m3} (h : ∀ i ∈ A, f i = g i) :
    (pt d c A q f : sProp 𝕄) = pt d c A q g := by
  cases d <;> exact pointsTo_congr h

/-- A full share is its left and its right part. -/
theorem pt_share (A : Finset S17x128x4096.Idx) (f : S17x128x4096.Idx → Elt F .fp8e4m3) :
    (pt d c A fullShare f : sProp 𝕄) = iprop(pt d c A fullShare.left f ∗ pt d c A fullShare.right f) := by
  cases d <;> exact BI.Entails.antisymm (pointsTo_share (PosShare.mem_left_op_right _)).1 (pointsTo_share (PosShare.mem_left_op_right _)).2

theorem pt_join {A B : Finset S17x128x4096.Idx} (h : Disjoint A B) (q : PosShare TreeShare) (f g : S17x128x4096.Idx → Elt F .fp8e4m3) :
    iprop(pt d c A q f ∗ pt d c B q g) ⊢ (pt d c (A ∪ B) q (B.piecewise g f) : sProp 𝕄) := by
  cases d
  · exact pointsTo_join (ℓ := (c : Thread nD τ).loc cc0_scratch0) (Val := Elt F) (f := f) (g := g) h
  · exact pointsTo_join (ℓ := (c : Thread nD τ).loc cc0_scratch1) (Val := Elt F) (f := f) (g := g) h

theorem pt_empty (q : PosShare TreeShare) (f : S17x128x4096.Idx → Elt F .fp8e4m3) : (pt d c ∅ q f : sProp 𝕄) = iprop(emp) := by
  cases d <;> exact pointsTo_empty

/-- The halves numbered from `a` to `b`, half `j` of slot `s` being number `2 s + j`. -/
def LR (a b : ℕ) : Finset S17x128x4096.Idx := Finset.univ.filter fun i => a ≤ 2 * (i 0).val + (i 1).val / 64 ∧ 2 * (i 0).val + (i 1).val / 64 < b

theorem mem_LR {a b : ℕ} {i : S17x128x4096.Idx} : i ∈ LR a b ↔ a ≤ 2 * (i 0).val + (i 1).val / 64 ∧ 2 * (i 0).val + (i 1).val / 64 < b := by
  unfold LR; rw [Finset.mem_filter]; exact ⟨fun h => h.2, fun h => ⟨Finset.mem_univ _, h⟩⟩

theorem LR_disjoint (a b e : ℕ) : Disjoint (LR a b) (LR b e) := by
  rw [Finset.disjoint_left]; intro i hi hi'
  rw [mem_LR] at hi hi'; omega

theorem LR_union {a b e : ℕ} (h : a ≤ b) (h' : b ≤ e) : LR a b ∪ LR b e = LR a e := by
  ext i; rw [Finset.mem_union, mem_LR, mem_LR, mem_LR]; omega

theorem LR_self (a : ℕ) : LR a a = ∅ := by
  ext i; rw [mem_LR]; exact ⟨fun h => absurd h.1 (by omega), fun h => absurd h (Finset.notMem_empty _)⟩

theorem LR_one (n : ℕ) : LR n (n + 1) = HS (n / 2) (n % 2) := by
  ext i; rw [mem_LR, mem_HS]
  have h1 : (i 1).val < 128 := (i 1).isLt
  omega

theorem LR_all : LR 0 34 = Finset.univ := by
  ext i; rw [mem_LR]
  have h0 : (i 0).val < 17 := (i 0).isLt
  have h1 : (i 1).val < 128 := (i 1).isLt
  exact ⟨fun _ => Finset.mem_univ _, fun _ => by omega⟩

end Pt

end Cert.KernelIdeal.Ring
-- ==== Proof.Steps.lean ====
/- One rule for each of the transfers' operations at a symbolic direction and number: sending a
   half on, waiting for a landing, waiting for the end of a send. -/
module

public import proofs.«01_k».proof.Proof.Views

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

/-! ## The cells and their invariants -/

/-- The transfers' semaphores: direction, landing or send, number. -/
abbrev ScIx : Type := Bool × Bool × Fin 32
/-- and where each lies. -/
abbrev osem : ScIx → SemLoc sig
  | (d, true, n) => .dma (recvS d n.val)
  | (d, false, n) => .dma (sendS d n.val)

theorem osem_val (d b : Bool) (n : Fin 32) : osem (d, b, n) = .dma ⟨8 + 64 * d.toNat + 32 * b.toNat + n.val, by
    show _ < 136; cases d <;> cases b <;> simp <;> omega⟩ := by
  have := n.isLt
  cases b <;> refine congrArg SemLoc.dma (Fin.ext ?_)
  · show 8 + 64 * d.toNat + n.val % 32 = 8 + 64 * d.toNat + 32 * 0 + n.val; omega
  · show 40 + 64 * d.toNat + n.val % 32 = 8 + 64 * d.toNat + 32 * 1 + n.val; omega

theorem osem_inj : Function.Injective osem := by
  rintro ⟨d, b, n⟩ ⟨d', b', n'⟩ h
  rw [osem_val, osem_val] at h
  have h' : 8 + 64 * d.toNat + 32 * b.toNat + n.val = 8 + 64 * d'.toNat + 32 * b'.toNat + n'.val :=
    congrArg Fin.val (SemLoc.dma.inj h)
  have := n.isLt; have := n'.isLt
  have hn : n.val = n'.val ∧ d = d' ∧ b = b' := by
    cases d <;> cases d' <;> cases b <;> cases b' <;> simp at h' ⊢ <;> omega
  obtain ⟨e, rfl, rfl⟩ := hn
  rw [Fin.ext e]

theorem osem_ne_bar (k : ScIx) : osem k ≠ .reg barS := by
  obtain ⟨d, b, n⟩ := k; cases b <;> exact fun h => nomatch h

def barEmb : Dev nD ↪ GSem nD τ sig := ⟨fun c => barC c, fun _ _ h => congrArg (fun g : GSem nD τ sig => g.1.1) h⟩
def scEmb : Dev nD × ScIx ↪ GSem nD τ sig :=
  ⟨fun ck => ((ck.1 : Thread nD τ), osem ck.2), fun _ _ h =>
    Prod.ext (congrArg (fun g : GSem nD τ sig => g.1.1) h) (osem_inj (congrArg Prod.snd h))⟩

/-- The handshakes' cells, -/
abbrev barCells : Finset (GSem nD τ sig) := Finset.univ.map barEmb
/-- and the transfers'. -/
abbrev scCells : Finset (GSem nD τ sig) := Finset.univ.map scEmb

section Inv
variable (X : Dev nD → S128x4096.Idx → Elt F .fp8e4m3) (κ : GSem nD τ sig → ℕ)

/-- Every cell of every device keeps its invariant, and every handshake is at its round. -/
def invs : sProp 𝕄 :=
  iprop((bigSep (barCells ∪ scCells) fun g => cellInv ER (rd X) (κ g) g) ∗ bigSep barCells fun g => reached ER g 0)

instance invs_persistent : BI.Persistent (invs (F := F) X κ) := by unfold invs; infer_instance

theorem inv_bar (c : Dev nD) : invs (F := F) X κ ⊢ cellInv ER (rd X) (κ (barC c)) (barC c) := by
  unfold invs
  exact sep_elim_left.trans (bigSep_elim (Finset.mem_union_left _ (Finset.mem_map_of_mem barEmb (Finset.mem_univ c))))

theorem inv_send (d : Bool) {n : ℕ} (hn : n < 32) (c : Dev nD) : invs (F := F) X κ ⊢ cellInv ER (rd X) (κ (sendC d n c)) (sendC d n c) := by
  unfold invs
  exact sep_elim_left.trans (bigSep_elim (Finset.mem_union_right _ (Finset.mem_map_of_mem scEmb (Finset.mem_univ (c, d, false, (⟨n, hn⟩ : Fin 32))))))

theorem inv_recv (d : Bool) {n : ℕ} (hn : n < 32) (c : Dev nD) : invs (F := F) X κ ⊢ cellInv ER (rd X) (κ (recvC d n c)) (recvC d n c) := by
  unfold invs
  exact sep_elim_left.trans (bigSep_elim (Finset.mem_union_right _ (Finset.mem_map_of_mem scEmb (Finset.mem_univ (c, d, true, (⟨n, hn⟩ : Fin 32))))))

theorem bar_reached (c : Dev nD) : invs (F := F) X κ ⊢ reached ER (barC c) 0 := by
  unfold invs
  exact sep_elim_right.trans (bigSep_elim (Finset.mem_map_of_mem barEmb (Finset.mem_univ c)))

end Inv

/-- No loop is in progress around the body. -/
abbrev 𝒱₀ : Variants := Variants.none

/-- A program run on device `c`'s processor. -/
abbrev W (c : Dev nD) (p : P F) (Q : PUnit → sProp 𝕄) : sProp 𝕄 :=
  wp frame (wpE (defs₀ (F := F)) 𝒱₀ (c : Thread nD τ) none) Set.univ p Q

/-- What a device holds for a send it has not made: the rights to signal its end and its landing, and
    the landing place. -/
def sendKit (d : Bool) (c : Dev nD) (n : ℕ) : sProp 𝕄 :=
  iprop((∃ f, pt d (nb d c) (LS n) fullShare f) ∗ dutyTok ER (sendC d n c) 0 false ∗ reached ER (sendC d n c) 0
    ∗ dutyTok ER (recvC d n (nb d c)) 0 false ∗ reached ER (recvC d n (nb d c)) 0)

section Ops
variable (X : Dev nD → S128x4096.Idx → Elt F .fp8e4m3) (κ : GSem nD τ sig → ℕ) (c : Dev nD)

/-- The rule for a send between two views that name the stated halves, addressed to the neighbour. -/
theorem send_core (Q : PUnit → sProp 𝕄) (d : Bool) {n : ℕ} (hu : used d n) (dv : Dev nD) (hdv : dv = nb d c) (sS rS : DmaSem sig) (hs : sS = sendS d n) (hr : rS = recvS d n)
    {src dst : Memref sig .tc .vmem S64x4096 .fp8e4m3} {hsc : dst.view.ref.isScScratch = false}
    {hsrc : src.view.WordExact} {hdst : dst.view.WordExact}
    {hsem : DmaTarget.Typed .vmem (.dma rS) (.remote (Dev.tc dv : Thread nD τ) dst (.dma sS) hsc)}
    (hN : dst.view.dmaCredit = N) {q : PosShare TreeShare} (fs : Buf (Elt F) (src.view.loc (c : Thread nD τ))) (fd : Buf (Elt F) (dst.view.loc (nb d c : Thread nD τ)))
    (h1 : (src.view.loc (c : Thread nD τ) ↦[src.view.set]{q} fs) ⊢ (srcPts X d n c : sProp 𝕄))
    (h2 : (dst.view.loc (nb d c : Thread nD τ) ↦[dst.view.set]{fullShare} (dst.view.write (Elt F) fd (src.view.read (Elt F) fs) Finset.univ))
      ⊢ (pt d (nb d c) (LS n) fullShare (blk X d (nb d c)) : sProp 𝕄))
    {O₁ : CellTallies nD τ sig Unit} (O : CellTallies nD τ sig Unit) (hO : O₁ = O + tallyAt (recvC d n (nb d c)) () N) (Wt : Waits sig Unit) (k : P F) :
    iprop(invs X κ ∗ (src.view.loc (c : Thread nD τ) ↦[src.view.set]{q} fs) ∗ (dst.view.loc (nb d c : Thread nD τ) ↦[dst.view.set]{fullShare} fd)
        ∗ owes (c : Thread nD τ) O₁ Wt
        ∗ dutyTok ER (sendC d n c) 0 false ∗ reached ER (sendC d n c) 0
        ∗ dutyTok ER (recvC d n (nb d c)) 0 false ∗ reached ER (recvC d n (nb d c)) 0)
      ⊢ iprop(((cred (tallyAt (sendC d n c) () N) ∗ owes (c : Thread nD τ) O Wt) -∗ W c k Q)
          -∗ W c (.op (.enqueueDma src (.remote (Dev.tc dv : Thread nD τ) dst (.dma sS) hsc) (.dma rS) hsrc hdst hsem) fun _ => k) Q) := by
  subst hdv; subst hs; subst hr
  iintro ⟨#HI, H⟩ Hk
  iapply (Rounds.wp_send_pointsTo 𝒱₀ ER (rd X) (c : Thread nD τ) none (κ₁ := κ (sendC d n c)) (κ₂ := κ (recvC d n (nb d c)))
    (r₁ := 0) (r₂ := 0) (d₁ := false) (d₂ := false) (fd := fd)
    (by rw [duties_send X c d hu]; exact Finset.mem_singleton_self _) (by rw [duties_recv X _ d hu]; exact Finset.mem_singleton_self _)
    () () N ((show dst.view.amount (.dma (recvS d n)) = dst.view.dmaCredit from rfl).trans hN) (amount_send X c d (used_lt hu) false) (amount_recv X (nb d c) d (used_lt hu) false) O hO (W := Wt)
    (by rw [payload_send X c d (used_lt hu)]; exact h1)
    (by rw [payload_recv X _ d (used_lt hu)]; exact h2)) $$ [H]
  · isplitr; · iapply (inv_send X κ d (used_lt hu) c); iexact HI
    isplitr; · iapply (inv_recv X κ d (used_lt hu) (nb d c)); iexact HI
    iexact H
  iexact Hk

/-- Send `n = 2 h + j`: the half to be sent, what the send still needs and what is owed go in; the
    credit of its end comes out, and one landing less is owed. -/
theorem send_step (Q : PUnit → sProp 𝕄) (d : Bool) (h : Fin 16) (j : Fin 2) (n : ℕ) (hn : n = 2 * h.val + j.val) (hu : used d n) (dv : Dev nD) (hdv : dv = nb d c)
    {O₁ : CellTallies nD τ sig Unit} (O : CellTallies nD τ sig Unit) (hO : O₁ = O + tallyAt (recvC d n (nb d c)) () N) (Wt : Waits sig Unit) (k : P F) :
    iprop(invs X κ ∗ srcPts X d n c ∗ sendKit d c n ∗ owes (c : Thread nD τ) O₁ Wt)
      ⊢ iprop(((cred (tallyAt (sendC d n c) () N) ∗ owes (c : Thread nD τ) O Wt) -∗ W c k Q) -∗ W c (send d dv h j k) Q) := by
  have e1 : n / 2 = h.val := by have := j.isLt; omega
  have e2 : n % 2 = j.val := by have := j.isLt; omega
  have hs : semOf (sendArr d) (sx h j) = sendS d n := (semOf_send d _).trans (by rw [hn])
  have hr : semOf (recvArr d) (sx h j) = recvS d n := (semOf_recv d _).trans (by rw [hn])
  have hL : LS n = HS (Fin.succ h).val j.val := by unfold LS; rw [e1, e2]; rfl
  have hP : ∀ d, (pt d (nb d c) (LS n) fullShare (blk X d (nb d c)) : sProp 𝕄) = pt d (nb d c) (HS (Fin.succ h).val j.val) fullShare (blk X d (nb d c)) :=
    fun d => by rw [hL]
  unfold sendKit
  rw [hL]
  iintro ⟨#HI, Hs, ⟨⟨%fd, Hd⟩, H⟩, HO⟩
  cases d with
  | false =>
    have hsrc : (srcPts X false n c : sProp 𝕄)
        = ((half false h.castSucc j).view.loc (c : Thread nD τ) ↦[(half false h.castSucc j).view.set]{fullShare.left} (blk X false c)) := by
      rw [pt_half_r]; unfold srcPts; rw [if_neg (fun h => Bool.noConfusion h.1), e1, e2]; rfl
    iapply (send_core X κ c Q false hu dv hdv _ _ hs hr (src := half false h.castSucc j) (dst := half false h.succ j) (N_half _ _ _) (blk X false c) fd (Entails.of_eq hsrc.symm)
      ((landed_r (nb false c) h.succ j X fd _ fun x => land_emb X false c h.castSucc h.succ rfl j _).trans (Entails.of_eq (hP false).symm)) O hO Wt k)
    isplitr; · iexact HI
    isplitl [Hs]; · iapply (Entails.of_eq hsrc) $$ Hs
    isplitl [Hd]; · iapply (Entails.of_eq (pt_half_r (nb false c) h.succ j fullShare fd).symm) $$ Hd
    isplitl [HO]; · iexact HO
    iexact H
  | true =>
    obtain ⟨h, hh⟩ := h
    cases h with
    | zero =>
      have hsrc : (srcPts X true n c : sProp 𝕄)
          = ((half false 0 j).view.loc (c : Thread nD τ) ↦[(half false 0 j).view.set]{fullShare.right} (blk X false c)) := by
        rw [pt_half_r]; unfold srcPts; rw [if_pos ⟨rfl, e1⟩, e2]; rfl
      iapply (send_core X κ c Q true hu dv hdv _ _ hs hr (src := half false 0 j) (dst := half true (Fin.succ ⟨0, hh⟩) j) (N_half _ _ _) (blk X false c) fd (Entails.of_eq hsrc.symm)
        ((landed_l (nb true c) (Fin.succ ⟨0, hh⟩) j X fd _ fun x => (blk_zero X c (rectH_emb 0 j _).1).symm.trans (land_emb X true c 0 (Fin.succ ⟨0, hh⟩) rfl j _)).trans (Entails.of_eq (hP true).symm)) O hO Wt k)
      isplitr; · iexact HI
      isplitl [Hs]; · iapply (Entails.of_eq hsrc) $$ Hs
      isplitl [Hd]; · iapply (Entails.of_eq (pt_half_l (nb true c) (Fin.succ ⟨0, hh⟩) j fullShare fd).symm) $$ Hd
      isplitl [HO]; · iexact HO
      iexact H
    | succ h =>
      have hl : h + 1 < 17 := by omega
      have hsrc : (srcPts X true n c : sProp 𝕄)
          = ((half true ⟨h + 1, hl⟩ j).view.loc (c : Thread nD τ) ↦[(half true ⟨h + 1, hl⟩ j).view.set]{fullShare.left} (blk X true c)) := by
        rw [pt_half_l]; unfold srcPts; rw [if_neg (fun h' => by rw [e1] at h'; exact absurd h'.2 (Nat.succ_ne_zero h)), e1, e2]
      iapply (send_core X κ c Q true hu dv hdv _ _ hs hr (src := half true ⟨h + 1, hl⟩ j) (dst := half true (Fin.succ ⟨h + 1, hh⟩) j) (N_half _ _ _) (blk X true c) fd (Entails.of_eq hsrc.symm)
        ((landed_l (nb true c) (Fin.succ ⟨h + 1, hh⟩) j X fd _ fun x => land_emb X true c ⟨h + 1, hl⟩ (Fin.succ ⟨h + 1, hh⟩) rfl j _).trans (Entails.of_eq (hP true).symm)) O hO Wt k)
      isplitr; · iexact HI
      isplitl [Hs]; · iapply (Entails.of_eq hsrc) $$ Hs
      isplitl [Hd]; · iapply (Entails.of_eq (pt_half_l (nb true c) (Fin.succ ⟨h + 1, hh⟩) j fullShare fd).symm) $$ Hd
      isplitl [HO]; · iexact HO
      iexact H

/-- The credit of the waits: a half's. -/
theorem N_from (d : Bool) (s : Fin 17) (j : Fin 2) : (from_ d s j).view.dmaCredit = N := by
  cases d with
  | false => exact N_half _ _ _
  | true => obtain ⟨s, hs⟩ := s; cases s <;> exact N_half _ _ _

/-- The rule for a wait on the device's cell of landing or send `n`. -/
theorem wait_core (Q : PUnit → sProp 𝕄) {sS sM : DmaSem sig} (hs : sS = sM) {src dst : Memref sig .tc .vmem S64x4096 .fp8e4m3} (hN : dst.view.dmaCredit = N)
    {hsrc : src.view.WordExact} {hdst : dst.view.WordExact} (O : CellTallies nD τ sig Unit) (Wt : Waits sig Unit) (k : P F)
    (he : (rd (F := F) X).expect ((c : Thread nD τ), .dma sM) 0 = N) (hI : invs X κ ⊢ cellInv ER (rd (F := F) X) (κ ((c : Thread nD τ), .dma sM)) ((c : Thread nD τ), .dma sM))
    (hM : (levAts L lv : sProp 𝕄) ⊢ MayWait (c : Thread nD τ) (.dma sM) () O) :
    iprop(invs X κ ∗ levAts L lv ∗ cred (tallyAt ((c : Thread nD τ), .dma sM) () N) ∗ owes (c : Thread nD τ) O Wt ∗ atPos ER ((c : Thread nD τ), .dma sM) 0 ∅ 0)
      ⊢ iprop(((owes (c : Thread nD τ) O (insert (.dma sM, ()) Wt) ∗ atPos ER ((c : Thread nD τ), .dma sM) 1 ∅ 0
            ∗ bigSep ((rd (F := F) X).duties ((c : Thread nD τ), .dma sM) 0 \ ∅) fun b => (rd (F := F) X).payload ((c : Thread nD τ), .dma sM) 0 b) -∗ W c k Q)
          -∗ W c (.op (.waitDma2 sS src dst hsrc hdst) fun _ => k) Q) := by
  subst hs
  iintro ⟨#HI, #HL, Hc, HO, Ha⟩ Hk
  iapply (Rounds.wp_wait_rest_token 𝒱₀ ER (rd X) (c : Thread nD τ) none (κ := κ ((c : Thread nD τ), .dma sS))
      (wpE_waitDma2_eq 𝒱₀ (c : Thread nD τ) none Set.univ) (Set.mem_univ _) () (O := O) (W := Wt) (R := 0) (m := 0) (T := ∅)
      (by rw [Nat.zero_add, hN, he])) $$ [Hc HO Ha]
  · isplitr; · iapply hI; iexact HI
    isplitl [Hc]; · rw [hN]; iexact Hc
    isplitl [HO]; · iexact HO
    isplitr; · iapply hM; iexact HL
    iexact Ha
  iintro ⟨HO, Ha, -, Hp⟩
  iapply Hk
  isplitl [HO]; · iexact HO
  isplitl [Ha]; · iexact Ha
  iexact Hp

/-- What a device holds for a landing it has not awaited. -/
def recvKit (d : Bool) (c : Dev nD) (n : ℕ) : sProp 𝕄 :=
  iprop(atPos ER (recvC d n c) 0 ∅ 0 ∗ cred (tallyAt (recvC d n c) () N))
/-- and for a send it has made and not awaited. -/
def sentKit (d : Bool) (c : Dev nD) (n : ℕ) : sProp 𝕄 :=
  iprop(atPos ER (sendC d n c) 0 ∅ 0 ∗ cred (tallyAt (sendC d n c) () N))

/-- The wait for landing `n = 2 h + j` hands over the half that landed. -/
theorem waitRecv_step (Q : PUnit → sProp 𝕄) (d : Bool) (h : Fin 16) (j : Fin 2) (n : ℕ) (hn : n = 2 * h.val + j.val) (hu : used d n)
    (O : CellTallies nD τ sig Unit) (Wt : Waits sig Unit) (k : P F)
    (hM : (levAts L lv : sProp 𝕄) ⊢ MayWait (c : Thread nD τ) (.dma (recvS d n)) () O) :
    iprop(invs X κ ∗ levAts L lv ∗ recvKit d c n ∗ owes (c : Thread nD τ) O Wt)
      ⊢ iprop((((∃ Wt, owes (c : Thread nD τ) O Wt) ∗ atPos ER (recvC d n c) 1 ∅ 0 ∗ pt d c (LS n) fullShare (blk X d c)) -∗ W c k Q)
          -∗ W c (waitRecv d h j k) Q) := by
  have hs : semOf (recvArr d) (sx h j) = recvS d n := (semOf_recv d _).trans (by rw [hn])
  unfold recvKit waitRecv
  iintro ⟨#HI, #HL, ⟨Ha, Hc⟩, HO⟩ Hk
  iapply (wait_core X κ c Q hs (N_half _ _ _) O Wt k (expect_recv X c d hu) (inv_recv X κ d (used_lt hu) c) hM) $$ [Hc HO Ha]
  · isplitr; · iexact HI
    isplitr; · iexact HL
    isplitl [Hc]; · iexact Hc
    isplitl [HO] <;> iassumption
  rw [rest_recv X c d hu]
  iintro ⟨HO, Ha, Hp⟩
  iapply Hk
  isplitl [HO]; · iexists _; iexact HO
  isplitl [Ha] <;> iassumption

/-- The wait for the end of send `n = 2 h + j` hands the lent share back. -/
theorem waitSend_step (Q : PUnit → sProp 𝕄) (d : Bool) (h : Fin 16) (j : Fin 2) (n : ℕ) (hn : n = 2 * h.val + j.val) (hu : used d n)
    (O : CellTallies nD τ sig Unit) (Wt : Waits sig Unit) (k : P F)
    (hM : (levAts L lv : sProp 𝕄) ⊢ MayWait (c : Thread nD τ) (.dma (sendS d n)) () O) :
    iprop(invs X κ ∗ levAts L lv ∗ sentKit d c n ∗ owes (c : Thread nD τ) O Wt)
      ⊢ iprop((((∃ Wt, owes (c : Thread nD τ) O Wt) ∗ atPos ER (sendC d n c) 1 ∅ 0 ∗ srcPts X d n c) -∗ W c k Q)
          -∗ W c (waitSend d h j k) Q) := by
  have hs : semOf (sendArr d) (sx h j) = sendS d n := (semOf_send d _).trans (by rw [hn])
  unfold sentKit waitSend
  iintro ⟨#HI, #HL, ⟨Ha, Hc⟩, HO⟩ Hk
  iapply (wait_core X κ c Q hs (N_from _ _ _) O Wt k (expect_send X c d hu) (inv_send X κ d (used_lt hu) c) hM) $$ [Hc HO Ha]
  · isplitr; · iexact HI
    isplitr; · iexact HL
    isplitl [Hc]; · iexact Hc
    isplitl [HO] <;> iassumption
  rw [rest_send X c d hu]
  iintro ⟨HO, Ha, Hp⟩
  iapply Hk
  isplitl [HO]; · iexists _; iexact HO
  isplitl [Ha] <;> iassumption

end Ops

end Cert.KernelIdeal.Ring
-- ==== Proof.Products.lean ====
/- The products: what each writes, which rows of the result are done, and a rule for each of the
   loads and stores they are made of. -/
module

public import proofs.«01_k».proof.Proof.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type} [FloatOps F]

local notation "𝕄" => MT nD τ sig Unit (Elt F) ℕ UU ℕ

/-! ## The tables' words -/

theorem off_own (c : Dev nD) : k0_off1 c = ![128 * c.val, 0] := by revert c; decide +kernel
theorem off_block (o : Dev nD) : k0_off2 (BitVec.ofNat 32 o.val) = ![128 * o.val, 0] := by revert o; decide +kernel
theorem off_low (o : Dev nD) : k0_off32 (BitVec.ofNat 32 o.val) = ![128 * o.val, 0] := by revert o; decide +kernel
theorem off_high (o : Dev nD) : k0_off33 (BitVec.ofNat 32 o.val) = ![128 * o.val + 64, 0] := by revert o; decide +kernel
theorem chk_block (o : Dev nD) : k0_chk3 (BitVec.ofNat 32 o.val) := by revert o; decide +kernel
theorem chk_low (o : Dev nD) : k0_chk33 (BitVec.ofNat 32 o.val) := by revert o; decide +kernel
theorem chk_high (o : Dev nD) : k0_chk34 (BitVec.ofNat 32 o.val) := by revert o; decide +kernel
theorem chk_right (o : Dev nD) : k0_chk2 (BitVec.ofNat 32 o.val) := by revert o; decide +kernel
theorem chk_left (o : Dev nD) : k0_chk1 (BitVec.ofNat 32 o.val) := by revert o; decide +kernel
theorem dev_right (o : Dev nD) : k0_dev3 (BitVec.ofNat 32 o.val) = o.val := by revert o; decide +kernel
theorem dev_left (o : Dev nD) : k0_dev5 (BitVec.ofNat 32 o.val) = o.val := by revert o; decide +kernel

/-- A direction's table on device `c`: where the block that lands at each hop comes from. -/
def tabV (d : Bool) (c : Dev nD) : S16.Idx → Elt F .i32 := fun i => BitVec.ofNat 32 (org d c ((i 0).val + 1)).val

/-- A table held on its device. -/
def tabP (d : Bool) (c : Dev nD) : sProp 𝕄 :=
  match d with
  | false => ((c : Thread nD τ).loc cc0_stg5_0) ↦{fullShare} tabV false c
  | true => ((c : Thread nD τ).loc cc0_stg6_0) ↦{fullShare} tabV true c

/-! ## The result -/

section Out
variable (X : Dev nD → S128x4096.Idx → Elt F .fp8e4m3) (wb : S4096x64.Idx → Elt F .bf16) (sc : F .f32) (c : Dev nD)

/-- The device a row of the result belongs to. -/
def rowDev (i : S4096x64.Idx) : Dev nD := ⟨(i 0).val / 128, by have : (i 0).val < 4096 := (i 0).isLt; show _ < 32; omega⟩

/-- What the result holds at the end: the device's own rows by the first product, the rows of the
    device across the ring by the products of halves, and the others by the hops' products. -/
def G : S4096x64.Idx → Elt F .f32 := fun i =>
  if rowDev i = c then k0_pay4 sc (X c) wb (ix2 ⟨(i 0).val % 128, Nat.mod_lt _ (by decide)⟩ (i 1))
  else if rowDev i = across c then
    k0_pay38 sc (fun y => X (rowDev i) (ix2 ⟨64 * ((i 0).val % 128 / 64) + (y 0).val, by
      have : (y 0).val < 64 := (y 0).isLt
      have := Nat.mod_lt (i 0).val (show 0 < 128 by decide); omega⟩ (y 1))) wb (ix2 ⟨(i 0).val % 64, Nat.mod_lt _ (by decide)⟩ (i 1))
  else k0_pay5 sc (X (rowDev i)) wb (ix2 ⟨(i 0).val % 128, Nat.mod_lt _ (by decide)⟩ (i 1))

/-- The result's buffer, its rows in `D` done. -/
def outP (D : ℕ → Prop) : sProp 𝕄 :=
  iprop(∃ f : S4096x64.Idx → Elt F .f32, ⌜∀ i, D (i 0).val → f i = G X wb sc c i⌝ ∗ ((c : Thread nD τ).loc cc0_stg7_0) ↦{fullShare} f)

theorem outP_mono {D D' : ℕ → Prop} (h : ∀ r, r < 4096 → D' r → D r) : outP X wb sc c D ⊢ outP X wb sc c D' := by
  unfold outP
  iintro ⟨%f, %hf, Hf⟩; iexists f
  isplitr; · ipureintro; exact fun i hi => hf i (h _ (i 0).isLt hi)
  iexact Hf

/-- The widened weights, held. -/
def wP : sProp 𝕄 := ((c : Thread nD τ).loc cc0_scratch2) ↦{fullShare} wb

/-- Rows written with what they are to hold are done. -/
theorem out_step (Q : PUnit → sProp 𝕄) (r : Rect S4096x64) {hl : (Memref.whole cc0_stg7_0 : Memref sig .tc .vmem S4096x64 .f32).view.LoadsAt r.toLoadRect} (w : r.shape.Idx → Elt F .f32)
    {hx : ((Memref.whole cc0_stg7_0 : Memref sig .tc .vmem S4096x64 .f32).access r).Stores Finset.univ} {hm : Finset.univ = Finset.univ ∨ ∀ a, r.stride a = 1}
    (D D' : ℕ → Prop) (hw : ∀ x, w x = G X wb sc c (r.emb x)) (hD : ∀ i : S4096x64.Idx, D' (i 0).val → D (i 0).val ∨ i ∈ r.set) (k : P F) :
    outP X wb sc c D ⊢ iprop((outP X wb sc c D' -∗ W c k Q)
      -∗ W c (.op (.load (Memref.whole cc0_stg7_0) r.toLoadRect hl) fun _ => .op (.store (Memref.whole cc0_stg7_0) r w Finset.univ hx hm) fun _ => k) Q) := by
  unfold outP
  iintro ⟨%f, %hf, Hf⟩ Hk
  iapply (wp_load 𝒱₀ (c : Thread nD τ) none Set.univ (m := (Memref.whole cc0_stg7_0 : Memref sig .tc .vmem S4096x64 .f32)) (Finset.subset_univ _)) $$ Hf; iintro Hf
  iapply (wp_store 𝒱₀ (c : Thread nD τ) none Set.univ (m := (Memref.whole cc0_stg7_0 : Memref sig .tc .vmem S4096x64 .f32)) (r := r) (Mk := Finset.univ) (Finset.subset_univ _)) $$ Hf; iintro Hf
  iapply Hk
  iexists _
  isplitr
  swap; · iexact Hf
  ipureintro
  intro i hi
  by_cases h : i ∈ r.set
  · rw [← Rect.map_emb_univ] at h
    obtain ⟨x, -, rfl⟩ := Finset.mem_map.1 h
    exact (View.write_emb_of_mem (v := (Memref.whole cc0_stg7_0 : Memref sig .tc .vmem S4096x64 .f32).access r) f w (Finset.mem_univ x)).trans (hw x)
  · rw [← hf i ((hD i hi).resolve_right h)]
    refine View.write_of_not_mem (v := (Memref.whole cc0_stg7_0 : Memref sig .tc .vmem S4096x64 .f32).access r) f w Finset.univ fun hm => h ?_
    rw [View.setOn_univ] at hm
    exact (View.set_slice_whole cc0_stg7_0 r) ▸ hm

/-- The widened weights read. -/
theorem w_step (Q : PUnit → sProp 𝕄) {hl : (Memref.whole cc0_scratch2 : Memref sig .tc .vmem S4096x64 .bf16).view.LoadsAt (Rect.unit (s := S4096x64) ![0, 0] S4096x64.size inb_S4096x64_S4096x64_0_0).toLoadRect} (k : (S4096x64.Idx → Elt F .bf16) → P F) :
    wP wb c ⊢ iprop((wP wb c -∗ W c (k wb) Q)
      -∗ W c (.op (.load (Memref.whole cc0_scratch2) (Rect.unit (s := S4096x64) ![0, 0] S4096x64.size inb_S4096x64_S4096x64_0_0).toLoadRect hl) k) Q) := by
  unfold wP
  iintro Hf Hk
  iapply (wp_load 𝒱₀ (c : Thread nD τ) none Set.univ (m := (Memref.whole cc0_scratch2 : Memref sig .tc .vmem S4096x64 .bf16)) (Finset.subset_univ _)) $$ Hf; iintro Hf
  rw [show (Memref.whole cc0_scratch2 : Memref sig .tc .vmem S4096x64 .bf16).view.readAt (Elt F) (Rect.unit (s := S4096x64) ![0, 0] S4096x64.size inb_S4096x64_S4096x64_0_0).toLoadRect wb = wb from
    Memref.readAt_unit_zero (Elt F) cc0_scratch2 (by decide) _ wb]
  iapply Hk; iexact Hf

/-- A slot read through a rectangle. -/
theorem slot_step (Q : PUnit → sProp 𝕄) (d : Bool) (s : Fin 17) (r : Rect S128x4096) (A : Finset S17x128x4096.Idx)
    (hA : ∀ x : r.shape.Idx, ∀ i : S17x128x4096.Idx, (i 0).val = s.val → (i 1).val = ((r.emb x) 0).val → i ∈ A) (q : PosShare TreeShare) {hl : (slot d s).view.LoadsAt r.toLoadRect}
    (k : (r.shape.Idx → Elt F .fp8e4m3) → P F) :
    pt d c A q (blk X d c) ⊢ iprop((pt d c A q (blk X d c) -∗ W c (k fun x => X (org d c s.val) (r.emb x)) Q)
      -∗ W c (.op (.load (slot d s) r.toLoadRect hl) k) Q) := by
  cases d
  · have h := wp_load_rect (defs := defs₀ (F := F)) (Q := Q) (Γ := .empty) 𝒱₀ (c : Thread nD τ) none Set.univ (hl := hl) (k := k) (m := slot false s) (r := r) (q := q) (f := blk X false c) (slot_sub_r s r A hA)
    rw [read_slot_r] at h
    exact h
  · have h := wp_load_rect (defs := defs₀ (F := F)) (Q := Q) (Γ := .empty) 𝒱₀ (c : Thread nD τ) none Set.univ (hl := hl) (k := k) (m := slot true s) (r := r) (q := q) (f := blk X true c) (slot_sub_l s r A hA)
    rw [read_slot_l] at h
    exact h

/-- A table's entry read. -/
theorem origin_step (Q : PUnit → sProp 𝕄) (d : Bool) (h : Fin 16) (k : Elt F .i32 → P F) :
    tabP d c ⊢ iprop((tabP d c -∗ W c (k (BitVec.ofNat 32 (org d c (h.val + 1)).val)) Q) -∗ W c (origin d h k) Q) := by
  cases d
  all_goals
    unfold origin tabP
    iintro Hf Hk
  · iapply (wp_load 𝒱₀ (c : Thread nD τ) none Set.univ (m := tab false) (Finset.subset_univ _)) $$ Hf; iintro Hf
    iapply Hk; iexact Hf
  · iapply (wp_load 𝒱₀ (c : Thread nD τ) none Set.univ (m := tab true) (Finset.subset_univ _)) $$ Hf; iintro Hf
    iapply Hk; iexact Hf

/-! ## The products -/

/-- The elements of a rectangle of whole rows. -/
theorem emb_rows (off : Fin 2 → ℕ) (r0 : ℕ) (ho : off = ![r0, 0]) (sz : Fin 2 → ℕ) (inb : ∀ a, off a + sz a ≤ S4096x64.size a)
    (x : (Rect.unit (s := S4096x64) off sz inb).shape.Idx) :
    ((Rect.unit (s := S4096x64) off sz inb).emb x 0).val = r0 + (x 0).val ∧ ((Rect.unit (s := S4096x64) off sz inb).emb x 1).val = (x 1).val := by
  subst ho
  constructor
  · show r0 + 1 * (x 0).val = _; omega
  · show 0 + 1 * (x 1).val = _; omega

/-- An element of a row the rectangle takes lies in it. -/
theorem mem_rows (off : Fin 2 → ℕ) (r0 : ℕ) (ho : off = ![r0, 0]) (sz : Fin 2 → ℕ) (hs : sz 1 = 64) (inb : ∀ a, off a + sz a ≤ S4096x64.size a)
    (i : S4096x64.Idx) (h : r0 ≤ (i 0).val) (h' : (i 0).val < r0 + sz 0) : i ∈ (Rect.unit (s := S4096x64) off sz inb).set := by
  subst ho
  have h1 : (i 1).val < 64 := (i 1).isLt
  rw [Rect.mem_set_unit]
  intro a
  fin_cases a
  · exact ⟨h, h'⟩
  · exact ⟨Nat.zero_le _, by show (i 1).val < 0 + sz 1; omega⟩

/-- A block of another device but the one across: what the hop's product writes is what the rows are to hold. -/
theorem G_block (o : Dev nD) (h1 : o ≠ c) (h2 : o ≠ across c) (i : S4096x64.Idx) (x : S128x64.Idx)
    (h0 : (i 0).val = 128 * o.val + (x 0).val) (h1' : (i 1).val = (x 1).val) : k0_pay5 sc (X o) wb x = G X wb sc c i := by
  have hx : (x 0).val < 128 := (x 0).isLt
  have ho : rowDev i = o := Fin.ext (by show (i 0).val / 128 = _; omega)
  unfold G
  rw [ho, if_neg h1, if_neg h2]
  congr 1
  funext a
  fin_cases a
  · exact Fin.ext (by show (x 0).val = (i 0).val % 128; omega)
  · exact Fin.ext h1'.symm

theorem G_own (i : S4096x64.Idx) (x : S128x64.Idx)
    (h0 : (i 0).val = 128 * c.val + (x 0).val) (h1' : (i 1).val = (x 1).val) : k0_pay4 sc (X c) wb x = G X wb sc c i := by
  have hx : (x 0).val < 128 := (x 0).isLt
  have ho : rowDev i = c := Fin.ext (by show (i 0).val / 128 = _; omega)
  unfold G
  rw [ho, if_pos rfl]
  congr 1
  funext a
  fin_cases a
  · exact Fin.ext (by show (x 0).val = (i 0).val % 128; omega)
  · exact Fin.ext h1'.symm

/-- Half `j` of the rows of the device across, by the product of that half. -/
theorem G_half (o : Dev nD) (h2 : o = across c) (j : ℕ) (hj : j < 2) (a : S64x4096.Idx → Elt F .fp8e4m3)
    (ha : ∀ y : S64x4096.Idx, ∀ z : S128x4096.Idx, (z 0).val = 64 * j + (y 0).val → (z 1).val = (y 1).val → a y = X o z)
    (i : S4096x64.Idx) (x : S64x64.Idx)
    (h0 : (i 0).val = 128 * o.val + 64 * j + (x 0).val) (h1' : (i 1).val = (x 1).val) : k0_pay38 sc a wb x = G X wb sc c i := by
  have hx : (x 0).val < 64 := (x 0).isLt
  have ho : rowDev i = o := Fin.ext (by show (i 0).val / 128 = _; omega)
  have h1 : o ≠ c := fun h => by
    have h3 := congrArg pos (h.symm.trans h2)
    have := pos_lt c
    rw [pos_across] at h3; omega
  unfold G
  rw [ho, if_neg h1, if_pos h2]
  have e : a = fun y => X o (ix2 ⟨64 * ((i 0).val % 128 / 64) + (y 0).val, by
      have : (y 0).val < 64 := (y 0).isLt
      have := Nat.mod_lt (i 0).val (show 0 < 128 by decide); omega⟩ (y 1)) := funext fun y => ha y _ (by
    show 64 * ((i 0).val % 128 / 64) + (y 0).val = _
    have : (i 0).val % 128 / 64 = j := by omega
    rw [this]) rfl
  rw [← e]
  congr 1
  funext a
  fin_cases a
  · exact Fin.ext (by show (x 0).val = (i 0).val % 64; omega)
  · exact Fin.ext h1'.symm

/-- Hop `h`'s product: the rows of the device its block comes from are done. -/
theorem gemm_step (Q : PUnit → sProp 𝕄) (d : Bool) (h : Fin 16) (hh : h.val < 15) (q : PosShare TreeShare) (D D' : ℕ → Prop)
    (hD : ∀ r, r < 4096 → D' r → D r ∨ r / 128 = (org d c (h.val + 1)).val) (k : P F) :
    iprop(tabP d c ∗ wP wb c ∗ pt d c (SS (h.val + 1)) q (blk X d c) ∗ outP X wb sc c D)
      ⊢ iprop(((tabP d c ∗ wP wb c ∗ pt d c (SS (h.val + 1)) q (blk X d c) ∗ outP X wb sc c D') -∗ W c k Q) -∗ W c (gemm d h sc k) Q) := by
  obtain ⟨hn1, hn2⟩ := org_ne d c (s := h.val + 1) (by omega) (by omega)
  unfold gemm
  iintro ⟨Ht, Hw, Hs, Ho⟩ Hk
  iapply (origin_step c Q d h) $$ Ht; iintro Ht
  generalize ho : org d c (h.val + 1) = o at *
  iapply (wp_assume 𝒱₀ (c : Thread nD τ) none Set.univ (chk_block o))
  iapply (slot_step X c Q d h.succ (Rect.unit (s := S128x4096) ![0, 0] S128x4096.size inb_S128x4096_S128x4096_0_0) (SS (h.val + 1)) (fun x i e0 e1 => by
      have : (i 1).val < 128 := (i 1).isLt
      rw [Finset.mem_union, mem_HS, mem_HS]
      have : (Fin.succ h).val = h.val + 1 := rfl
      omega) q) $$ Hs
  iintro Hs
  iapply (w_step wb c Q) $$ Hw; iintro Hw
  iapply (out_step X wb sc c Q (Rect.unit (s := S4096x64) (k0_off2 (BitVec.ofNat 32 o.val)) S128x64.size _) _ D D' ?_ ?_ k) $$ Ho
  · intro x
    obtain ⟨e0, e1⟩ := emb_rows (k0_off2 (BitVec.ofNat 32 o.val)) _ (off_block o) S128x64.size (k0_off2_inb _ (chk_block o)) x
    refine Eq.trans ?_ (G_block X wb sc c o hn1 hn2 _ x e0 e1)
    refine congrArg (fun a => k0_pay5 sc a wb x) (funext fun y => ?_)
    rw [show org d c (Fin.succ h).val = o from ho]
    exact congrArg _ (funext fun a => Fin.ext (by fin_cases a <;> exact (Nat.zero_add _).trans (Nat.one_mul _)))
  · intro i hi
    rcases hD _ (i 0).isLt hi with e | e
    · exact Or.inl e
    · exact Or.inr (mem_rows _ _ (off_block o) S128x64.size rfl (k0_off2_inb _ (chk_block o)) i (by show 128 * o.val ≤ _; omega) (by show _ < 128 * o.val + 128; omega))
  iintro Ho
  iapply Hk
  isplitl [Ht]; · iexact Ht
  isplitl [Hw]; · iexact Hw
  isplitl [Hs] <;> iassumption

end Out

end Cert.KernelIdeal.Ring
-- ==== Proof.Pieces.lean ====
/- The rest of the body's pieces: the products of the halves of the last hop, the device's own block
   put into slot 0 and multiplied, the scales and the neighbours read. -/
module

public import proofs.«01_k».proof.Proof.Products

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type} [FloatOps F]

local notation "𝕄" => MT nD τ sig Unit (Elt F) ℕ UU ℕ

section Out
variable (X : Dev nD → S128x4096.Idx → Elt F .fp8e4m3) (wb : S4096x64.Idx → Elt F .bf16) (sc : F .f32) (c : Dev nD)

/-- Half a slot read through the rectangle of its rows is that half of the block across. -/
theorem half_rows (o : Dev nD) (j : ℕ) (inb : ∀ a, (![64 * j, 0] : Fin 2 → ℕ) a + S64x4096.size a ≤ S128x4096.size a)
    (y : S64x4096.Idx) (z : S128x4096.Idx) (h0 : (z 0).val = 64 * j + (y 0).val) (h1 : (z 1).val = (y 1).val) :
    X o ((Rect.unit (s := S128x4096) ![64 * j, 0] S64x4096.size inb).emb y) = X o z := by
  refine congrArg _ (funext fun a => Fin.ext ?_)
  fin_cases a
  · show 64 * j + 1 * (y 0).val = (z 0).val; omega
  · show 0 + 1 * (y 1).val = (z 1).val; omega

/-- The lower half of the rows of the device across is done by its product. -/
theorem low_step (Q : PUnit → sProp 𝕄) (D D' : ℕ → Prop) (hD : ∀ r, r < 4096 → D' r → D r ∨ r / 64 = 2 * (across c).val) (k : P F) :
    iprop(tabP false c ∗ wP wb c ∗ pt false c (HS 16 0) fullShare (blk X false c) ∗ outP X wb sc c D)
      ⊢ iprop(((tabP false c ∗ wP wb c ∗ pt false c (HS 16 0) fullShare (blk X false c) ∗ outP X wb sc c D') -∗ W c k Q) -∗ W c (low sc k) Q) := by
  have hc := dev_lt c
  have hn := org_across false c
  unfold low
  iintro ⟨Ht, Hw, Hs, Ho⟩ Hk
  iapply (origin_step c Q false 15) $$ Ht; iintro Ht
  rw [show ((15 : Fin 16).val + 1) = 16 from rfl]
  generalize ho : org false c 16 = o at *
  iapply (wp_assume 𝒱₀ (c : Thread nD τ) none Set.univ (chk_low o))
  iapply (slot_step X c Q false 16 (Rect.unit (s := S128x4096) ![64 * 0, 0] S64x4096.size inb_S128x4096_S64x4096_0_0) (HS 16 0) (fun x i e0 e1 => by
      have hx : (x 0).val < 64 := (x 0).isLt
      have e1' : (i 1).val = 0 + 1 * (x 0).val := e1
      have e0' : (i 0).val = 16 := e0
      rw [mem_HS]
      omega) fullShare) $$ Hs
  iintro Hs
  iapply (w_step wb c Q) $$ Hw; iintro Hw
  iapply (out_step X wb sc c Q (Rect.unit (s := S4096x64) (k0_off32 (BitVec.ofNat 32 o.val)) S64x64.size _) _ D D' ?_ ?_ k) $$ Ho
  · intro x
    obtain ⟨e0, e1⟩ := emb_rows (k0_off32 (BitVec.ofNat 32 o.val)) _ (off_low o) S64x64.size (k0_off32_inb _ (chk_low o)) x
    refine G_half X wb sc c o hn 0 (by decide) _ (fun y z h0 h1 => ?_) _ x (by rw [e0]; omega) e1
    rw [show org false c (16 : Fin 17).val = o from ho]
    exact half_rows X o 0 _ y z h0 h1
  · intro i hi
    have hv := congrArg Fin.val hn
    rcases hD _ (i 0).isLt hi with e | e
    · exact Or.inl e
    · exact Or.inr (mem_rows _ _ (off_low o) S64x64.size rfl (k0_off32_inb _ (chk_low o)) i (by show 128 * o.val ≤ _; omega) (by show _ < 128 * o.val + 64; omega))
  iintro Ho
  iapply Hk
  isplitl [Ht]; · iexact Ht
  isplitl [Hw]; · iexact Hw
  isplitl [Hs] <;> iassumption

/-- The upper half of the rows of the device across is done by its product. -/
theorem high_step (Q : PUnit → sProp 𝕄) (D D' : ℕ → Prop) (hD : ∀ r, r < 4096 → D' r → D r ∨ r / 64 = 2 * (across c).val + 1) (k : P F) :
    iprop(tabP true c ∗ wP wb c ∗ pt true c (HS 16 1) fullShare (blk X true c) ∗ outP X wb sc c D)
      ⊢ iprop(((tabP true c ∗ wP wb c ∗ pt true c (HS 16 1) fullShare (blk X true c) ∗ outP X wb sc c D') -∗ W c k Q) -∗ W c (high sc k) Q) := by
  have hc := dev_lt c
  have hn := org_across true c
  unfold high
  iintro ⟨Ht, Hw, Hs, Ho⟩ Hk
  iapply (origin_step c Q true 15) $$ Ht; iintro Ht
  rw [show ((15 : Fin 16).val + 1) = 16 from rfl]
  generalize ho : org true c 16 = o at *
  iapply (wp_assume 𝒱₀ (c : Thread nD τ) none Set.univ (chk_high o))
  iapply (slot_step X c Q true 16 (Rect.unit (s := S128x4096) ![64 * 1, 0] S64x4096.size inb_S128x4096_S64x4096_64_0) (HS 16 1) (fun x i e0 e1 => by
      have hx : (x 0).val < 64 := (x 0).isLt
      have e1' : (i 1).val = 64 + 1 * (x 0).val := e1
      have e0' : (i 0).val = 16 := e0
      rw [mem_HS]
      omega) fullShare) $$ Hs
  iintro Hs
  iapply (w_step wb c Q) $$ Hw; iintro Hw
  iapply (out_step X wb sc c Q (Rect.unit (s := S4096x64) (k0_off33 (BitVec.ofNat 32 o.val)) S64x64.size _) _ D D' ?_ ?_ k) $$ Ho
  · intro x
    obtain ⟨e0, e1⟩ := emb_rows (k0_off33 (BitVec.ofNat 32 o.val)) _ (off_high o) S64x64.size (k0_off33_inb _ (chk_high o)) x
    refine G_half X wb sc c o hn 1 (by decide) _ (fun y z h0 h1 => ?_) _ x (by rw [e0]) e1
    rw [show org true c (16 : Fin 17).val = o from ho]
    exact half_rows X o 1 _ y z h0 h1
  · intro i hi
    have hv := congrArg Fin.val hn
    rcases hD _ (i 0).isLt hi with e | e
    · exact Or.inl e
    · exact Or.inr (mem_rows _ _ (off_high o) S64x64.size rfl (k0_off33_inb _ (chk_high o)) i (by show 128 * o.val + 64 ≤ _; omega) (by show _ < 128 * o.val + 64 + 64; omega))
  iintro Ho
  iapply Hk
  isplitl [Ht]; · iexact Ht
  isplitl [Hw]; · iexact Hw
  isplitl [Hs] <;> iassumption

/-- The weights are widened and the device's own rows are done. -/
theorem own_step (Q : PUnit → sProp 𝕄) (w8 : S4096x64.Idx → Elt F .fp8e5m2) (fw : S4096x64.Idx → Elt F .bf16) (k : P F) :
    iprop((((c : Thread nD τ).loc cc0_stg1_0) ↦{fullShare} w8) ∗ (((c : Thread nD τ).loc cc0_scratch2) ↦{fullShare} fw)
        ∗ (((c : Thread nD τ).loc cc0_stg0_0) ↦{fullShare} X c) ∗ outP X (k0_pay3 w8) sc c (fun _ => False))
      ⊢ iprop((((((c : Thread nD τ).loc cc0_stg1_0) ↦{fullShare} w8) ∗ wP (k0_pay3 w8) c
        ∗ (((c : Thread nD τ).loc cc0_stg0_0) ↦{fullShare} X c) ∗ outP X (k0_pay3 w8) sc c (fun r => r / 128 = c.val)) -∗ W c k Q) -∗ W c (own sc k) Q) := by
  unfold own
  iintro ⟨H1, Hw, H0, Ho⟩ Hk
  iapply (wp_load 𝒱₀ (c : Thread nD τ) none Set.univ (m := (Memref.whole cc0_stg1_0 : Memref sig .tc .vmem S4096x64 .fp8e5m2)) (Finset.subset_univ _)) $$ H1; iintro H1
  rw [show (Memref.whole cc0_stg1_0 : Memref sig .tc .vmem S4096x64 .fp8e5m2).view.readAt (Elt F) (Rect.unit (s := S4096x64) ![0, 0] S4096x64.size inb_S4096x64_S4096x64_0_0).toLoadRect w8 = w8 from
    Memref.readAt_unit_zero (Elt F) cc0_stg1_0 (by decide) _ w8]
  iapply (wp_load 𝒱₀ (c : Thread nD τ) none Set.univ (m := (Memref.whole cc0_scratch2 : Memref sig .tc .vmem S4096x64 .bf16)) (Finset.subset_univ _)) $$ Hw; iintro Hw
  iapply (wp_store 𝒱₀ (c : Thread nD τ) none Set.univ (m := (Memref.whole cc0_scratch2 : Memref sig .tc .vmem S4096x64 .bf16)) (r := Rect.unit (s := S4096x64) ![0, 0] S4096x64.size inb_S4096x64_S4096x64_0_0) (Mk := Finset.univ) (Finset.subset_univ _)) $$ Hw; iintro Hw
  rw [show ((Memref.whole cc0_scratch2 : Memref sig .tc .vmem S4096x64 .bf16).access (Rect.unit (s := S4096x64) ![0, 0] S4096x64.size inb_S4096x64_S4096x64_0_0)).write (Elt F) fw (k0_pay3 w8) Finset.univ = k0_pay3 w8 from
    Memref.write_access_unit_zero_univ (Elt F) cc0_scratch2 (by decide) _ fw _]
  rw [wp_deviceId]
  iapply (wp_load 𝒱₀ (c : Thread nD τ) none Set.univ (m := (Memref.whole cc0_stg0_0 : Memref sig .tc .vmem S128x4096 .fp8e4m3)) (Finset.subset_univ _)) $$ H0; iintro H0
  rw [show (Memref.whole cc0_stg0_0 : Memref sig .tc .vmem S128x4096 .fp8e4m3).view.readAt (Elt F) (Rect.unit (s := S128x4096) ![0, 0] S128x4096.size inb_S128x4096_S128x4096_0_0).toLoadRect (X c) = X c from
    Memref.readAt_unit_zero (Elt F) cc0_stg0_0 (by decide) _ (X c)]
  iapply (w_step (k0_pay3 w8) c Q) $$ [Hw]; · unfold wP; iexact Hw
  iintro Hw
  iapply (out_step X (k0_pay3 w8) sc c Q (Rect.unit (s := S4096x64) (k0_off1 c) S128x64.size _) _ (fun _ => False) (fun r => r / 128 = c.val) ?_ ?_ k) $$ Ho
  · intro x
    obtain ⟨e0, e1⟩ := emb_rows (k0_off1 c) _ (off_own c) S128x64.size (k0_off1_inb c) x
    exact G_own X (k0_pay3 w8) sc c _ x e0 e1
  · intro i hi
    have hi' : (i 0).val / 128 = c.val := hi
    exact Or.inr (mem_rows _ _ (off_own c) S128x64.size rfl (k0_off1_inb c) i (by omega) (by show _ < 128 * c.val + 128; omega))
  iintro Ho
  iapply Hk
  isplitl [H1]; · iexact H1
  isplitl [Hw]; · iexact Hw
  isplitl [H0] <;> iassumption

/-- The device's own block is put into slot 0. -/
theorem place_step (Q : PUnit → sProp 𝕄) (f : S17x128x4096.Idx → Elt F .fp8e4m3) (k : P F) :
    iprop((((c : Thread nD τ).loc cc0_stg0_0) ↦{fullShare} X c) ∗ (((c : Thread nD τ).loc cc0_scratch0) ↦{fullShare} f))
      ⊢ iprop((((((c : Thread nD τ).loc cc0_stg0_0) ↦{fullShare} X c) ∗ pt false c (LR 0 2) fullShare (blk X false c) ∗ pt false c (LR 2 34) fullShare f) -∗ W c k Q)
        -∗ W c (place k) Q) := by
  unfold place
  iintro ⟨H0, Hr⟩ Hk
  iapply (wp_load 𝒱₀ (c : Thread nD τ) none Set.univ (m := (Memref.whole cc0_stg0_0 : Memref sig .tc .vmem S128x4096 .fp8e4m3)) (Finset.subset_univ _)) $$ H0; iintro H0
  rw [show (Memref.whole cc0_stg0_0 : Memref sig .tc .vmem S128x4096 .fp8e4m3).view.readAt (Elt F) (Rect.unit (s := S128x4096) ![0, 0] S128x4096.size inb_S128x4096_S128x4096_0_0).toLoadRect (X c) = X c from
    Memref.readAt_unit_zero (Elt F) cc0_stg0_0 (by decide) _ (X c)]
  iapply (wp_load 𝒱₀ (c : Thread nD τ) none Set.univ (m := buf false) (Finset.subset_univ _)) $$ Hr; iintro Hr
  iapply (wp_store 𝒱₀ (c : Thread nD τ) none Set.univ (m := buf false) (r := Rect.unit (s := S17x128x4096) ![0, 0, 0] S1x128x4096.size inb_S17x128x4096_S1x128x4096_0_0_0) (Mk := Finset.univ) (Finset.subset_univ _)) $$ Hr; iintro Hr
  iapply Hk
  isplitl [H0]; · iexact H0
  generalize hg : ((buf false).access (Rect.unit (s := S17x128x4096) ![0, 0, 0] S1x128x4096.size inb_S17x128x4096_S1x128x4096_0_0_0)).write (Elt F) f (k0_pay1 (X c)) Finset.univ = g
  have h1 : ∀ i ∈ LR 0 2, g i = blk X false c i := by
    intro i hi
    rw [mem_LR] at hi
    have hi0 : (i 0).val = 0 := by omega
    have e : (Rect.unit (s := S17x128x4096) ![0, 0, 0] S1x128x4096.size inb_S17x128x4096_S1x128x4096_0_0_0).emb (ix3 (⟨0, Nat.one_pos⟩ : Fin 1) (i 1) (i 2)) = i := by
      funext a; refine Fin.ext ?_
      fin_cases a
      · show 0 + 1 * 0 = (i 0).val; omega
      · show 0 + 1 * (i 1).val = (i 1).val; omega
      · show 0 + 1 * (i 2).val = (i 2).val; omega
    have h := View.write_emb_of_mem (v := (buf false).access (Rect.unit (s := S17x128x4096) ![0, 0, 0] S1x128x4096.size inb_S17x128x4096_S1x128x4096_0_0_0)) (Val := Elt F) f (k0_pay1 (X c)) (Finset.mem_univ (ix3 (⟨0, Nat.one_pos⟩ : Fin 1) (i 1) (i 2)))
    refine (congrArg g e.symm).trans ((congrFun hg _).symm.trans (h.trans ?_))
    refine (cast_eq _ _).trans ?_
    unfold blk
    rw [hi0, org_zero]
    unfold k0_pay1
    rw [shapeCast_self]
    refine congrArg (X c) ?_
    have e' := reshapeEquiv_ix2_1ab (a := 128) (b := 4096) (by decide) (i 1) (i 2)
    refine (congrArg _ e'.symm).trans ?_
    exact (Shape.reshapeEquiv_reshapeEquiv _ _ _).trans (Shape.reshapeEquiv_self _ _)
  have h2 : ∀ i ∈ LR 2 34, g i = f i := by
    intro i hi
    rw [← hg]
    refine View.write_of_not_mem (v := (buf false).access (Rect.unit (s := S17x128x4096) ![0, 0, 0] S1x128x4096.size inb_S17x128x4096_S1x128x4096_0_0_0)) (Val := Elt F) f _ Finset.univ fun hm => ?_
    rw [View.setOn_univ] at hm
    have hm' : i ∈ (Rect.unit (s := S17x128x4096) ![0, 0, 0] S1x128x4096.size inb_S17x128x4096_S1x128x4096_0_0_0).set := (View.set_slice_whole cc0_scratch0 _) ▸ hm
    rw [Rect.mem_set_unit] at hm'
    have h0 : (i 0).val < 0 + 1 := (hm' 0).2
    rw [mem_LR] at hi
    have : (i 1).val < 128 := (i 1).isLt
    omega
  rw [← pt_congr false c h1, ← pt_congr false c h2]
  have e : iprop(pt false c (LR 0 2) fullShare g ∗ pt false c (LR 2 34) fullShare g) = (pt false c Finset.univ fullShare g : sProp 𝕄) := by
    rw [← pt_union false c (LR_disjoint 0 2 34), LR_union (by decide) (by decide), LR_all]
  rw [e]
  unfold pt
  iexact Hr

end Out

/-- The product of the scales, read. -/
theorem scale_step (c : Dev nD) (Q : PUnit → sProp 𝕄) (f g : S1.Idx → Elt F .f32) (k : F .f32 → P F) :
    iprop((((c : Thread nD τ).loc cc0_stg2_0) ↦{fullShare} f) ∗ (((c : Thread nD τ).loc cc0_stg3_0) ↦{fullShare} g))
      ⊢ iprop((((((c : Thread nD τ).loc cc0_stg2_0) ↦{fullShare} f) ∗ (((c : Thread nD τ).loc cc0_stg3_0) ↦{fullShare} g)) -∗ W c (k (k0_pay2 (f (ix1 0)) (g (ix1 0)))) Q)
        -∗ W c (scale k) Q) := by
  unfold scale
  iintro ⟨H2, H3⟩ Hk
  iapply (wp_load 𝒱₀ (c : Thread nD τ) none Set.univ (m := (Memref.whole cc0_stg2_0 : Memref sig .tc .smem S1 .f32)) (Finset.subset_univ _)) $$ H2; iintro H2
  iapply (wp_load 𝒱₀ (c : Thread nD τ) none Set.univ (m := (Memref.whole cc0_stg3_0 : Memref sig .tc .smem S1 .f32)) (Finset.subset_univ _)) $$ H3; iintro H3
  have ha : ∀ a : Fin S1.rank, S1.size a = 1 := by decide
  have e : ∀ i j : S1.Idx, i = j := fun i j => funext fun a => Fin.ext (by
    have h1 : (i a).val < 1 := lt_of_lt_of_eq (i a).isLt (ha a)
    have h2 : (j a).val < 1 := lt_of_lt_of_eq (j a).isLt (ha a)
    omega)
  have hf : ∀ i : S1.Idx, f i = f (ix1 0) := fun i => congrArg f (e i _)
  have hg : ∀ i : S1.Idx, g i = g (ix1 0) := fun i => congrArg g (e i _)
  rw [show (Memref.whole cc0_stg2_0 : Memref sig .tc .smem S1 .f32).view.readAt (Elt F) (Rect.unit (s := S1) ![0] S1.size inb_S1_S1_0).toLoadRect f = fun _ => f (ix1 0) from funext fun x => hf _,
    show (Memref.whole cc0_stg3_0 : Memref sig .tc .smem S1 .f32).view.readAt (Elt F) (Rect.unit (s := S1) ![0] S1.size inb_S1_S1_0).toLoadRect g = fun _ => g (ix1 0) from funext fun x => hg _]
  iapply Hk
  isplitl [H2] <;> iassumption

/-- The table of the neighbours on device `c`. -/
def nbT (c : Dev nD) : S2.Idx → Elt F .i32 := fun i => BitVec.ofNat 32 (nb ((i 0).val == 1) c).val

/-- The neighbours, read. -/
theorem neighbours_step (c : Dev nD) (Q : PUnit → sProp 𝕄) (k : Dev nD → Dev nD → P F) :
    iprop((((c : Thread nD τ).loc cc0_stg4_0) ↦{fullShare} nbT (F := F) c) : sProp 𝕄)
      ⊢ iprop((((((c : Thread nD τ).loc cc0_stg4_0) ↦{fullShare} nbT (F := F) c)) -∗ W c (k (nb false c) (nb true c)) Q)
        -∗ W c (neighbours k) Q) := by
  unfold neighbours
  iintro H4 Hk
  iapply (wp_load 𝒱₀ (c : Thread nD τ) none Set.univ (m := (Memref.whole cc0_stg4_0 : Memref sig .tc .smem S2 .i32)) (Finset.subset_univ _)) $$ H4; iintro H4
  iapply (wp_assume 𝒱₀ (c : Thread nD τ) none Set.univ (chk_right (nb false c)))
  iapply (wp_load 𝒱₀ (c : Thread nD τ) none Set.univ (m := (Memref.whole cc0_stg4_0 : Memref sig .tc .smem S2 .i32)) (Finset.subset_univ _)) $$ H4; iintro H4
  iapply (wp_assume 𝒱₀ (c : Thread nD τ) none Set.univ (chk_left (nb true c)))
  have e1 : (⟨k0_dev3 (BitVec.ofNat 32 (nb false c).val), k0_dev3_lt _ (chk_right (nb false c))⟩ : Dev nD) = nb false c := Fin.ext (dev_right _)
  have e2 : (⟨k0_dev5 (BitVec.ofNat 32 (nb true c).val), k0_dev5_lt _ (chk_left (nb true c))⟩ : Dev nD) = nb true c := Fin.ext (dev_left _)
  have h : W c (k (nb false c) (nb true c)) Q ⊢ W c (k ⟨k0_dev3 (BitVec.ofNat 32 (nb false c).val), k0_dev3_lt _ (chk_right (nb false c))⟩ ⟨k0_dev5 (BitVec.ofNat 32 (nb true c).val), k0_dev5_lt _ (chk_left (nb true c))⟩) Q := by
    rw [e1, e2]
  iapply h
  iapply Hk
  iexact H4

end Cert.KernelIdeal.Ring
-- ==== Proof.Hop.lean ====
/- One hop of the two rings: what a device holds before it, and that the hop takes it to what the
   device holds before the next. -/
module

public import proofs.«01_k».proof.Proof.Pieces

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

/-! ## Families of transfers -/

theorem bigSep_insert_eq {k : ℕ} {T : Finset ℕ} (h : k ∉ T) {Φ : ℕ → sProp 𝕄} : bigSep (insert k T) Φ = iprop(Φ k ∗ bigSep T Φ) :=
  BI.bigSep_insert h

/-- The next transfer and the rest. -/
theorem fam_step (d : Bool) {k : ℕ} (hk : k < 30) (Φ : ℕ → sProp 𝕄) : fam d k Φ = iprop(Φ k ∗ fam d (k + 1) Φ) := by
  unfold fam
  rw [show Finset.Ico k 30 = insert k (Finset.Ico (k + 1) 30) by ext x; rw [Finset.mem_insert, Finset.mem_Ico, Finset.mem_Ico]; omega,
    bigSep_insert_eq (by rw [Finset.mem_Ico]; omega)]
  exact BI.Entails.antisymm (sep_assoc (PROP := sProp 𝕄)).1 (sep_assoc (PROP := sProp 𝕄)).2

theorem fam_last (d : Bool) (Φ : ℕ → sProp 𝕄) : fam d 30 Φ ⊢ Φ (lastN d) := by
  unfold fam
  exact sep_elim_right

theorem fam_sep (d : Bool) (k : ℕ) (Φ Ψ : ℕ → sProp 𝕄) : fam d k (fun n => iprop(Φ n ∗ Ψ n)) = iprop(fam d k Φ ∗ fam d k Ψ) := by
  unfold fam
  rw [bigSep_sep']
  have h1 : iprop((bigSep (Finset.Ico k 30) Φ ∗ bigSep (Finset.Ico k 30) Ψ) ∗ (Φ (lastN d) ∗ Ψ (lastN d))) ⊢ iprop((bigSep (Finset.Ico k 30) Φ ∗ Φ (lastN d)) ∗ (bigSep (Finset.Ico k 30) Ψ ∗ Ψ (lastN d))) := by
    iintro ⟨⟨H1, H2⟩, H3, H4⟩
    isplitl [H1 H3]
    · isplitl [H1] <;> iassumption
    · isplitl [H2] <;> iassumption
  have h2 : iprop((bigSep (Finset.Ico k 30) Φ ∗ Φ (lastN d)) ∗ (bigSep (Finset.Ico k 30) Ψ ∗ Ψ (lastN d))) ⊢ iprop((bigSep (Finset.Ico k 30) Φ ∗ bigSep (Finset.Ico k 30) Ψ) ∗ (Φ (lastN d) ∗ Ψ (lastN d))) := by
    iintro ⟨⟨H1, H3⟩, H2, H4⟩
    isplitl [H1 H2]
    · isplitl [H1] <;> iassumption
    · isplitl [H3] <;> iassumption
  exact BI.Entails.antisymm h1 h2

theorem fam_mono (d : Bool) (k : ℕ) {Φ Ψ : ℕ → sProp 𝕄} (h : ∀ n, used d n → Φ n ⊢ Ψ n) : fam d k Φ ⊢ fam d k Ψ := by
  unfold fam
  exact BI.sep_mono (bigSep_mono fun n hn => h n (.inl (Finset.mem_Ico.1 hn).2)) (h _ (.inr rfl))

/-! ## The slots a device holds -/

theorem SS_LR (h : ℕ) : SS h = LR (2 * h) (2 * h + 2) := by
  ext i; rw [Finset.mem_union, mem_HS, mem_HS, mem_LR]
  have h1 : (i 1).val < 128 := (i 1).isLt
  omega

theorem LS_even (h : ℕ) : LS (2 * h) = HS (h + 1) 0 := by
  unfold LS; rw [show 2 * h / 2 = h by omega, show 2 * h % 2 = 0 by omega]
theorem LS_odd (h : ℕ) : LS (2 * h + 1) = HS (h + 1) 1 := by
  unfold LS; rw [show (2 * h + 1) / 2 = h by omega, show (2 * h + 1) % 2 = 1 by omega]

theorem SS_disjoint (h : ℕ) : Disjoint (HS h 0) (HS h 1) := HS_disjoint (by omega)

section Slots
variable (X : Dev nD → S128x4096.Idx → Elt F .fp8e4m3) (c : Dev nD)

/-- Beyond the first hop a send's share is the left one of its slot's half. -/
theorem srcPts_eq (d : Bool) (n : ℕ) (hn : n / 2 ≠ 0) : (srcPts X d n c : sProp 𝕄) = pt d c (HS (n / 2) (n % 2)) fullShare.left (blk X d c) := by
  unfold srcPts; exact if_neg fun h => hn h.2

/-- What has landed is lent to the send that passes it on, and read meanwhile. -/
theorem pass_on (d : Bool) (n : ℕ) : (pt d c (LS n) fullShare (blk X d c) : sProp 𝕄) ⊢ iprop(srcPts X d (n + 2) c ∗ pt d c (LS n) fullShare.right (blk X d c)) := by
  rw [srcPts_eq X c d (n + 2) (by omega), show (n + 2) / 2 = n / 2 + 1 by omega, show (n + 2) % 2 = n % 2 by omega, pt_share]

/-- What a device keeps of a direction's slots before hop `h`: the slots passed on already, and the
    share of slot `h` that is not lent. -/
def keep (d : Bool) (h : ℕ) : sProp 𝕄 :=
  iprop(pt d c (LR (2 * d.toNat) (2 * h)) fullShare (blk X d c) ∗ if h = 0 then iprop(emp) else pt d c (SS h) fullShare.right (blk X d c))

theorem regain_one (d : Bool) (h : ℕ) (hh : h ≠ 0) :
    iprop(keep X c d h ∗ srcPts X d (2 * h) c ∗ srcPts X d (2 * h + 1) c) ⊢ (pt d c (LR (2 * d.toNat) (2 * h + 2)) fullShare (blk X d c) : sProp 𝕄) := by
  unfold keep
  rw [srcPts_eq X c d (2 * h) (by omega), srcPts_eq X c d (2 * h + 1) (by omega), show 2 * h / 2 = h by omega, show 2 * h % 2 = 0 by omega,
    show (2 * h + 1) / 2 = h by omega, show (2 * h + 1) % 2 = 1 by omega, if_neg hh, ← pt_union d c (SS_disjoint h),
    ← LR_union (a := 2 * d.toNat) (b := 2 * h) (e := 2 * h + 2) (by cases d <;> simp <;> omega) (by omega), pt_union d c (LR_disjoint _ _ _), ← SS_LR, pt_share d c (SS h)]
  iintro ⟨⟨H1, H2⟩, H3⟩
  isplitl [H1]; · iexact H1
  isplitl [H3] <;> iassumption

/-- The shares lent to hop `h`'s sends come back: the slots up to `h` are whole. -/
theorem regain (h : ℕ) :
    iprop(keep X c false h ∗ keep X c true h ∗ (srcPts X true (2 * h) c ∗ srcPts X true (2 * h + 1) c) ∗ (srcPts X false (2 * h) c ∗ srcPts X false (2 * h + 1) c))
      ⊢ (iprop(pt false c (LR 0 (2 * h + 2)) fullShare (blk X false c) ∗ pt true c (LR 2 (2 * h + 2)) fullShare (blk X true c)) : sProp 𝕄) := by
  by_cases hh : h = 0
  · subst hh
    have e : ∀ j, j < 2 → (srcPts X true j c : sProp 𝕄) = pt false c (HS 0 j) fullShare.right (blk X false c) := fun j hj => by
      unfold srcPts; rw [if_pos ⟨rfl, by omega⟩, Nat.mod_eq_of_lt hj]
    have e' : ∀ j, j < 2 → (srcPts X false j c : sProp 𝕄) = pt false c (HS 0 j) fullShare.left (blk X false c) := fun j hj => by
      unfold srcPts; rw [if_neg (fun h => Bool.noConfusion h.1), Nat.mod_eq_of_lt hj, show j / 2 = 0 by omega]
    rw [show 2 * 0 = 0 from rfl, show 0 + 1 = 1 from rfl, show 0 + 2 = 2 from rfl, e 0 (by decide), e 1 (by decide), e' 0 (by decide), e' 1 (by decide), ← pt_union false c (SS_disjoint 0),
      ← pt_union false c (SS_disjoint 0), LR_self, pt_empty, show LR 0 2 = SS 0 from (SS_LR 0).symm, pt_share false c (SS 0)]
    iintro ⟨-, -, H1, H2⟩
    isplitl
    · isplitl [H2] <;> iassumption
    · iempintro
  · iintro ⟨H1, H2, H3, H4⟩
    isplitl [H1 H4]
    · iapply (regain_one X c false h hh); isplitl [H1] <;> iassumption
    · iapply (regain_one X c true h hh); isplitl [H2] <;> iassumption

/-! ## What a device holds of a direction -/

/-- For a send it has not made, with the position of its own wait. -/
def kit (d : Bool) (n : ℕ) : sProp 𝕄 := iprop(sendKit d c n ∗ atPos ER (sendC d n c) 0 ∅ 0)
/-- Of a transfer that is over at both its ends. -/
def over (d : Bool) (n : ℕ) : sProp 𝕄 := iprop(atPos ER (sendC d n c) 1 ∅ 0 ∗ atPos ER (recvC d n c) 1 ∅ 0)

/-- A direction before hop `h`. -/
def ring (d : Bool) (h : ℕ) : sProp 𝕄 :=
  iprop(fam d (2 * h + 2) (kit c d) ∗ fam d (2 * h) (recvKit d c) ∗ (sentKit d c (2 * h) ∗ sentKit d c (2 * h + 1))
    ∗ bigSep (Finset.Ico 0 (2 * h)) (over c d) ∗ keep X c d h)

theorem over_two (d : Bool) (h : ℕ) : iprop(bigSep (Finset.Ico 0 (2 * h)) (over c d) ∗ over c d (2 * h) ∗ over c d (2 * h + 1))
    ⊢ (bigSep (Finset.Ico 0 (2 * h + 2)) (over c d) : sProp 𝕄) := by
  have e : ∀ b : ℕ, Finset.Ico 0 (b + 1) = insert b (Finset.Ico 0 b) := fun b => by
    ext x; rw [Finset.mem_insert, Finset.mem_Ico, Finset.mem_Ico]; omega
  rw [show 2 * h + 2 = (2 * h + 1) + 1 from rfl, e, bigSep_insert_eq (by rw [Finset.mem_Ico]; omega), e, bigSep_insert_eq (by rw [Finset.mem_Ico]; omega)]
  iintro ⟨H1, H2, H3⟩
  isplitl [H3]; · iexact H3
  isplitl [H2] <;> iassumption

end Slots

/-! ## The rows done -/

/-- The rows done after `a` blocks from the left and `b` blocks from the right. -/
def Dn (c : Dev nD) (a b r : ℕ) : Prop := (rowPos r + 32 - pos c) % 32 ≤ a ∨ 32 - b ≤ (rowPos r + 32 - pos c) % 32

/-- A block from the right is added to the rows done. -/
theorem Dn_right (c : Dev nD) (a h r : ℕ) (hh : h < 15) (hr : r < 4096) (hd : Dn c a (h + 1) r) : Dn c a h r ∨ r / 128 = (org false c (h + 1)).val := by
  have hp := rowPos_lt r
  have hc := pos_lt c
  by_cases e : rowPos r = pos (org false c (h + 1))
  · exact Or.inr (rowPos_eq hr e)
  · refine Or.inl ?_
    simp only [org, pos_devAt] at e
    unfold Dn at *; omega

/-- A block from the left is added to the rows done. -/
theorem Dn_left (c : Dev nD) (b h r : ℕ) (hh : h < 15) (hr : r < 4096) (hd : Dn c (h + 1) b r) : Dn c h b r ∨ r / 128 = (org true c (h + 1)).val := by
  have hp := rowPos_lt r
  have hc := pos_lt c
  by_cases e : rowPos r = pos (org true c (h + 1))
  · exact Or.inr (rowPos_eq hr e)
  · refine Or.inl ?_
    simp only [org, pos_devAt] at e
    unfold Dn at *; omega

/-- With no blocks landed only the device's own rows are done. -/
theorem Dn_zero (c : Dev nD) (r : ℕ) (hr : r < 4096) (hd : Dn c 0 0 r) : r / 128 = c.val := by
  have hp := rowPos_lt r
  have hc := pos_lt c
  refine rowPos_eq hr ?_
  unfold Dn at hd; omega

/-- After fifteen blocks each way only the rows of the device across are left. -/
theorem Dn_all (c : Dev nD) (r : ℕ) (hr : r < 4096) : Dn c 15 15 r ∨ r / 128 = (across c).val := by
  have hp := rowPos_lt r
  have hc := pos_lt c
  by_cases e : rowPos r = pos (across c)
  · exact Or.inr (rowPos_eq hr e)
  · refine Or.inl ?_
    rw [pos_across] at e
    unfold Dn; omega

section Hop
variable (X : Dev nD → S128x4096.Idx → Elt F .fp8e4m3) (κ : GSem nD τ sig → ℕ) (wb : S4096x64.Idx → Elt F .bf16) (sc : F .f32) (c : Dev nD)

/-- A landing is awaited and passed on. -/
theorem relay_step (Q : PUnit → sProp 𝕄) (d : Bool) (h h' : Fin 16) (hh : h'.val = h.val + 1) (j : Fin 2) (n : ℕ) (hn : n = 2 * h.val + j.val) (hu : used d n) (hu' : used d (n + 2))
    (O₁ O : CellTallies nD τ sig Unit) (hO : O₁ = O + tallyAt (recvC d (n + 2) (nb d c)) () N) (k : P F)
    (hM : (levAts L lv : sProp 𝕄) ⊢ MayWait (c : Thread nD τ) (.dma (recvS d n)) () O₁) :
    iprop(invs X κ ∗ levAts L lv ∗ recvKit d c n ∗ kit c d (n + 2) ∗ (∃ Wt, owes (c : Thread nD τ) O₁ Wt))
      ⊢ iprop((((∃ Wt, owes (c : Thread nD τ) O Wt) ∗ atPos ER (recvC d n c) 1 ∅ 0 ∗ sentKit d c (n + 2) ∗ pt d c (LS n) fullShare.right (blk X d c)) -∗ W c k Q)
          -∗ W c (waitRecv d h j (send d (nb d c) h' j k)) Q) := by
  unfold kit
  iintro ⟨#HI, #HL, Hr, ⟨Hk, Ha⟩, ⟨%Wt, HO⟩⟩ HQ
  iapply (waitRecv_step X κ c Q d h j n hn hu O₁ Wt _ hM) $$ [Hr HO]
  · isplitr; · iexact HI
    isplitr; · iexact HL
    isplitl [Hr] <;> iassumption
  iintro ⟨⟨%Wt, HO⟩, Hd, Hp⟩
  ihave Hp := (pass_on X c d n) $$ Hp
  icases Hp with ⟨Hs, Hp⟩
  iapply (send_step X κ c Q d h' j (n + 2) (by omega) hu' (nb d c) rfl O hO Wt k) $$ [Hs Hk HO]
  · isplitr; · iexact HI
    isplitl [Hs]; · iexact Hs
    isplitl [Hk] <;> iassumption
  iintro ⟨Hc, HO⟩
  iapply HQ
  isplitl [HO]; · iexists _; iexact HO
  isplitl [Hd]; · iexact Hd
  isplitr [Hp]
  · unfold sentKit; isplitl [Ha] <;> iassumption
  iexact Hp

/-- The end of a send is awaited; both its ends are over. -/
theorem done_step (Q : PUnit → sProp 𝕄) (d : Bool) (h : Fin 16) (j : Fin 2) (n : ℕ) (hn : n = 2 * h.val + j.val) (hu : used d n)
    (O : CellTallies nD τ sig Unit) (k : P F)
    (hM : (levAts L lv : sProp 𝕄) ⊢ MayWait (c : Thread nD τ) (.dma (sendS d n)) () O) :
    iprop(invs X κ ∗ levAts L lv ∗ sentKit d c n ∗ atPos ER (recvC d n c) 1 ∅ 0 ∗ (∃ Wt, owes (c : Thread nD τ) O Wt))
      ⊢ iprop((((∃ Wt, owes (c : Thread nD τ) O Wt) ∗ over c d n ∗ srcPts X d n c) -∗ W c k Q)
          -∗ W c (waitSend d h j k) Q) := by
  iintro ⟨#HI, #HL, Hs, Hr, ⟨%Wt, HO⟩⟩ HQ
  iapply (waitSend_step X κ c Q d h j n hn hu O Wt k hM) $$ [Hs HO]
  · isplitr; · iexact HI
    isplitr; · iexact HL
    isplitl [Hs] <;> iassumption
  iintro ⟨HO, Ha, Hp⟩
  iapply HQ
  isplitl [HO]; · iexact HO
  isplitr [Hp]
  · unfold over; isplitl [Ha] <;> iassumption
  iexact Hp

/-- What a device holds before hop `h`, of both directions and of the products. -/
def st (h : ℕ) : sProp 𝕄 :=
  iprop(ring X c false h ∗ ring X c true h ∗ (∃ Wt, owes (c : Thread nD τ) (Od false c (2 * h + 2) + Od true c (2 * h + 2)) Wt)
    ∗ tabP false c ∗ tabP true c ∗ wP wb c ∗ outP X wb sc c (Dn c h h))

/-- The two products of a hop, the landed slots read at the share that is not lent. -/
theorem gemms_step (Q : PUnit → sProp 𝕄) (h : Fin 16) (hh : h.val < 15) (k : P F) :
    iprop((tabP false c ∗ tabP true c ∗ wP wb c ∗ outP X wb sc c (Dn c h.val h.val)) ∗ (pt false c (HS (h.val + 1) 0) fullShare.right (blk X false c) ∗ pt false c (HS (h.val + 1) 1) fullShare.right (blk X false c))
        ∗ (pt true c (HS (h.val + 1) 0) fullShare.right (blk X true c) ∗ pt true c (HS (h.val + 1) 1) fullShare.right (blk X true c)))
      ⊢ iprop((((tabP false c ∗ tabP true c ∗ wP wb c ∗ outP X wb sc c (Dn c (h.val + 1) (h.val + 1))) ∗ pt false c (SS (h.val + 1)) fullShare.right (blk X false c)
          ∗ pt true c (SS (h.val + 1)) fullShare.right (blk X true c)) -∗ W c k Q) -∗ W c (gemm false h sc (gemm true h sc k)) Q) := by
  have hc := dev_lt c
  rw [← pt_union false c (SS_disjoint _), ← pt_union true c (SS_disjoint _)]
  iintro ⟨⟨Ht, Ht', Hw, Ho⟩, Hf, Hl⟩ HQ
  iapply (gemm_step X wb sc c Q false h hh fullShare.right (Dn c h.val h.val) (Dn c h.val (h.val + 1)) (fun r hr hd => Dn_right c _ _ r hh hr hd) _) $$ [Ht Hw Hf Ho]
  · isplitl [Ht]; · iexact Ht
    isplitl [Hw]; · iexact Hw
    isplitl [Hf] <;> iassumption
  iintro ⟨Ht, Hw, Hf, Ho⟩
  iapply (gemm_step X wb sc c Q true h hh fullShare.right (Dn c h.val (h.val + 1)) (Dn c (h.val + 1) (h.val + 1)) (fun r hr hd => Dn_left c _ _ r hh hr hd) _) $$ [Ht' Hw Hl Ho]
  · isplitl [Ht']; · iexact Ht'
    isplitl [Hw]; · iexact Hw
    isplitl [Hl] <;> iassumption
  iintro ⟨Ht', Hw, Hl, Ho⟩
  iapply HQ
  isplitl [Ht Ht' Hw Ho]
  · isplitl [Ht]; · iexact Ht
    isplitl [Ht']; · iexact Ht'
    isplitl [Hw] <;> iassumption
  isplitl [Hf] <;> iassumption

/-- A hop takes what a device holds before it to what it holds before the next. -/
theorem hop_step (Q : PUnit → sProp 𝕄) (h : Fin 14) (k : P F) :
    iprop(invs X κ ∗ levAts L lv ∗ st X wb sc c h.val)
      ⊢ iprop((st X wb sc c (h.val + 1) -∗ W c k Q) -∗ W c (hop (nb false c) (nb true c) sc h k) Q) := by
  have hh : h.val < 14 := h.isLt
  have hb : h.val < 16 := by omega
  have hb' : h.val + 1 < 16 := by omega
  have hu : ∀ d, used d (2 * h.val) := fun d => .inl (by omega)
  have hu1 : ∀ d, used d (2 * h.val + 1) := fun d => .inl (by omega)
  have hu2 : ∀ d, used d (2 * h.val + 2) := fun d => .inl (by omega)
  have hu3 : ∀ d, used d (2 * h.val + 1 + 2) := fun d => .inl (by omega)
  have hl : ∀ d, lv (recvC d (2 * h.val) c) () = 2 + h.val := fun d => by rw [lv_recv d (used_lt (hu d))]; omega
  have hl1 : ∀ d, lv (recvC d (2 * h.val + 1) c) () = 2 + h.val := fun d => by rw [lv_recv d (used_lt (hu1 d))]; omega
  have hs : ∀ d, lv (sendC d (2 * h.val) c) () = 0 := fun d => lv_send d (used_lt (hu d)) c
  have hs1 : ∀ d, lv (sendC d (2 * h.val + 1) c) () = 0 := fun d => lv_send d (used_lt (hu1 d)) c
  unfold st ring hop
  dsimp only
  rw [show 2 * (h.val + 1) = 2 * h.val + 2 from rfl]
  rw [fam_step false (k := 2 * h.val + 2) (by omega) (kit c false), fam_step false (k := 2 * h.val + 2 + 1) (by omega) (kit c false),
    fam_step true (k := 2 * h.val + 2) (by omega) (kit c true), fam_step true (k := 2 * h.val + 2 + 1) (by omega) (kit c true),
    fam_step false (k := 2 * h.val) (by omega) (recvKit false c), fam_step false (k := 2 * h.val + 1) (by omega) (recvKit false c),
    fam_step true (k := 2 * h.val) (by omega) (recvKit true c), fam_step true (k := 2 * h.val + 1) (by omega) (recvKit true c)]
  iintro ⟨#HI, #HL, ⟨HfK, HfR, ⟨HfS, HfS1⟩, HfO, Hfk⟩, ⟨HtK, HtR, ⟨HtS, HtS1⟩, HtO, Htk⟩, HO, Hg⟩ HQ
  icases HfK with ⟨Hf2, Hf3, HfK⟩
  icases HtK with ⟨Ht2, Ht3, HtK⟩
  icases HfR with ⟨Hf0, Hf1, HfR⟩
  icases HtR with ⟨Ht0, Ht1, HtR⟩
  iapply (relay_step X κ c Q false ⟨h.val, hb⟩ ⟨h.val + 1, hb'⟩ rfl 0 (2 * h.val) rfl (hu _) (hu2 _)
    (Od false c (2 * h.val + 2) + Od true c (2 * h.val + 2)) (Od false c (2 * h.val + 3) + Od true c (2 * h.val + 2))
    ((congrArg (fun x => x + Od true c (2 * h.val + 2)) (Od_step false c (k := 2 * h.val + 2) (by omega))).trans (add_right_comm _ _ _)) _
    (mayWait_sends (by omega) (by omega) ((hl _).trans_lt (by omega)) ((hl _).trans_lt (by omega)))) $$ [Hf0 Hf2 HO]
  · isplitr; · iexact HI
    isplitr; · iexact HL
    isplitl [Hf0]; · iexact Hf0
    isplitl [Hf2] <;> iassumption
  iintro ⟨HO, Hfa, Hf2, Hfp⟩
  iapply (relay_step X κ c Q true ⟨h.val, hb⟩ ⟨h.val + 1, hb'⟩ rfl 0 (2 * h.val) rfl (hu _) (hu2 _)
    (Od false c (2 * h.val + 3) + Od true c (2 * h.val + 2)) (Od false c (2 * h.val + 3) + Od true c (2 * h.val + 3))
    ((congrArg (fun x => Od false c (2 * h.val + 3) + x) (Od_step true c (k := 2 * h.val + 2) (by omega))).trans ((add_assoc _ _ _).symm)) _
    (mayWait_sends (by omega) (by omega) ((hl _).trans_lt (by omega)) ((hl _).trans_lt (by omega)))) $$ [Ht0 Ht2 HO]
  · isplitr; · iexact HI
    isplitr; · iexact HL
    isplitl [Ht0]; · iexact Ht0
    isplitl [Ht2] <;> iassumption
  iintro ⟨HO, Hta, Ht2, Htp⟩
  iapply (relay_step X κ c Q false ⟨h.val, hb⟩ ⟨h.val + 1, hb'⟩ rfl 1 (2 * h.val + 1) rfl (hu1 _) (hu3 _)
    (Od false c (2 * h.val + 3) + Od true c (2 * h.val + 3)) (Od false c (2 * h.val + 4) + Od true c (2 * h.val + 3))
    ((congrArg (fun x => x + Od true c (2 * h.val + 3)) (Od_step false c (k := 2 * h.val + 3) (by omega))).trans (add_right_comm _ _ _)) _
    (mayWait_sends (by omega) (by omega) ((hl1 _).trans_lt (by omega)) ((hl1 _).trans_lt (by omega)))) $$ [Hf1 Hf3 HO]
  · isplitr; · iexact HI
    isplitr; · iexact HL
    isplitl [Hf1]; · iexact Hf1
    isplitl [Hf3] <;> iassumption
  iintro ⟨HO, Hfa1, Hf3, Hfp1⟩
  iapply (relay_step X κ c Q true ⟨h.val, hb⟩ ⟨h.val + 1, hb'⟩ rfl 1 (2 * h.val + 1) rfl (hu1 _) (hu3 _)
    (Od false c (2 * h.val + 4) + Od true c (2 * h.val + 3)) (Od false c (2 * h.val + 4) + Od true c (2 * h.val + 4))
    ((congrArg (fun x => Od false c (2 * h.val + 4) + x) (Od_step true c (k := 2 * h.val + 3) (by omega))).trans ((add_assoc _ _ _).symm)) _
    (mayWait_sends (by omega) (by omega) ((hl1 _).trans_lt (by omega)) ((hl1 _).trans_lt (by omega)))) $$ [Ht1 Ht3 HO]
  · isplitr; · iexact HI
    isplitr; · iexact HL
    isplitl [Ht1]; · iexact Ht1
    isplitl [Ht3] <;> iassumption
  iintro ⟨HO, Hta1, Ht3, Htp1⟩
  rw [LS_even, LS_odd]
  iapply (gemms_step X wb sc c Q ⟨h.val, hb⟩ (by show h.val < 15; omega) _) $$ [Hg Hfp Hfp1 Htp Htp1]
  · isplitl [Hg]; · iexact Hg
    isplitl [Hfp Hfp1]
    · isplitl [Hfp] <;> iassumption
    · isplitl [Htp] <;> iassumption
  iintro ⟨Hg, Hfp, Htp⟩
  iapply (done_step X κ c Q true ⟨h.val, hb⟩ 0 (2 * h.val) rfl (hu _) (Od false c (2 * h.val + 4) + Od true c (2 * h.val + 4)) _
    (mayWait_sends (k := 2 * h.val + 4) (k' := 2 * h.val + 4) (by omega) (by omega) ((hs _).trans_lt (by omega)) ((hs _).trans_lt (by omega)))) $$ [HtS Hta HO]
  · isplitr; · iexact HI
    isplitr; · iexact HL
    isplitl [HtS]; · iexact HtS
    isplitl [Hta] <;> iassumption
  iintro ⟨HO, Hta, HtS⟩
  iapply (done_step X κ c Q true ⟨h.val, hb⟩ 1 (2 * h.val + 1) rfl (hu1 _) (Od false c (2 * h.val + 4) + Od true c (2 * h.val + 4)) _
    (mayWait_sends (k := 2 * h.val + 4) (k' := 2 * h.val + 4) (by omega) (by omega) ((hs1 _).trans_lt (by omega)) ((hs1 _).trans_lt (by omega)))) $$ [HtS1 Hta1 HO]
  · isplitr; · iexact HI
    isplitr; · iexact HL
    isplitl [HtS1]; · iexact HtS1
    isplitl [Hta1] <;> iassumption
  iintro ⟨HO, Hta1, HtS1⟩
  iapply (done_step X κ c Q false ⟨h.val, hb⟩ 0 (2 * h.val) rfl (hu _) (Od false c (2 * h.val + 4) + Od true c (2 * h.val + 4)) _
    (mayWait_sends (k := 2 * h.val + 4) (k' := 2 * h.val + 4) (by omega) (by omega) ((hs _).trans_lt (by omega)) ((hs _).trans_lt (by omega)))) $$ [HfS Hfa HO]
  · isplitr; · iexact HI
    isplitr; · iexact HL
    isplitl [HfS]; · iexact HfS
    isplitl [Hfa] <;> iassumption
  iintro ⟨HO, Hfa, HfS⟩
  iapply (done_step X κ c Q false ⟨h.val, hb⟩ 1 (2 * h.val + 1) rfl (hu1 _) (Od false c (2 * h.val + 4) + Od true c (2 * h.val + 4)) _
    (mayWait_sends (k := 2 * h.val + 4) (k' := 2 * h.val + 4) (by omega) (by omega) ((hs1 _).trans_lt (by omega)) ((hs1 _).trans_lt (by omega)))) $$ [HfS1 Hfa1 HO]
  · isplitr; · iexact HI
    isplitr; · iexact HL
    isplitl [HfS1]; · iexact HfS1
    isplitl [Hfa1] <;> iassumption
  iintro ⟨HO, Hfa1, HfS1⟩
  ihave Hk := (regain X c h.val) $$ [Hfk Htk HtS HtS1 HfS HfS1]
  · isplitl [Hfk]; · iexact Hfk
    isplitl [Htk]; · iexact Htk
    isplitl [HtS HtS1]
    · isplitl [HtS] <;> iassumption
    · isplitl [HfS] <;> iassumption
  icases Hk with ⟨Hfk, Htk⟩
  iapply HQ
  isplitl [HfK HfR Hf2 Hf3 HfO Hfa Hfa1 Hfk Hfp]
  · isplitl [HfK]; · iexact HfK
    isplitl [HfR]; · iexact HfR
    isplitl [Hf2 Hf3]
    · isplitl [Hf2] <;> iassumption
    isplitl [HfO Hfa Hfa1]
    · iapply (over_two c false h.val)
      isplitl [HfO]; · iexact HfO
      isplitl [Hfa] <;> iassumption
    unfold keep
    rw [if_neg (Nat.succ_ne_zero h.val)]
    isplitl [Hfk]; · iexact Hfk
    iexact Hfp
  isplitl [HtK HtR Ht2 Ht3 HtO Hta Hta1 Htk Htp]
  · isplitl [HtK]; · iexact HtK
    isplitl [HtR]; · iexact HtR
    isplitl [Ht2 Ht3]
    · isplitl [Ht2] <;> iassumption
    isplitl [HtO Hta Hta1]
    · iapply (over_two c true h.val)
      isplitl [HtO]; · iexact HtO
      isplitl [Hta] <;> iassumption
    unfold keep
    rw [if_neg (Nat.succ_ne_zero h.val)]
    isplitl [Htk]; · iexact Htk
    iexact Htp
  isplitl [HO] <;> iassumption

/-- All fourteen hops. -/
theorem hops_step (Q : PUnit → sProp 𝕄) (k : P F) : ∀ (n : ℕ) (hn : n ≤ 14),
    iprop(invs X κ ∗ levAts L lv ∗ st X wb sc c (14 - n))
      ⊢ iprop((st X wb sc c 14 -∗ W c k Q) -∗ W c (hops (nb false c) (nb true c) sc k n hn) Q)
  | 0, _ => by
    unfold hops
    iintro ⟨-, -, H⟩ HQ
    iapply HQ; iexact H
  | n + 1, hn => by
    unfold hops
    iintro ⟨#HI, #HL, H⟩ HQ
    have hb : 13 - n < 14 := by omega
    have hb' : n ≤ 14 := by omega
    iapply (hop_step X κ wb sc c Q ⟨13 - n, hb⟩ _) $$ [H]
    · isplitr; · iexact HI
      isplitr; · iexact HL
      rw [show 14 - (n + 1) = 13 - n by omega]; iexact H
    iintro H
    iapply (hops_step Q k n hb') $$ [H]
    · isplitr; · iexact HI
      isplitr; · iexact HL
      rw [show 14 - n = 13 - n + 1 by omega]; iexact H
    iexact HQ

end Hop

end Cert.KernelIdeal.Ring
-- ==== Proof.Body.lean ====
/- The whole body of the kernel: the handshake, the first sends, the last two hops, and the body's
   rule, from what a device is dealt at launch to the finished result. -/
module

public import proofs.«01_k».proof.Proof.Hop

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ UU ℕ

/-! ## The last two hops -/

/-- The half of slot 16 that a direction's last transfer fills. -/
abbrev lastJ (d : Bool) : ℕ := d.toNat

section Last
variable (X : Dev nD → S128x4096.Idx → Elt F .fp8e4m3) (κ : GSem nD τ sig → ℕ) (wb : S4096x64.Idx → Elt F .bf16) (sc : F .f32) (c : Dev nD)

/-- A direction before the fifteenth hop, piece by piece. -/
theorem ring_last (d : Bool) : ring X c d 14
    ⊢ iprop(kit c d (lastN d) ∗ recvKit d c 28 ∗ recvKit d c 29 ∗ recvKit d c (lastN d) ∗ sentKit d c 28 ∗ sentKit d c 29
      ∗ bigSep (Finset.Ico 0 28) (over c d) ∗ keep X c d 14) := by
  unfold ring
  rw [show 2 * 14 = 28 from rfl, show 28 + 2 = 30 from rfl, show 28 + 1 = 29 from rfl, fam_step d (k := 28) (by decide) (recvKit d c), fam_step d (k := 28 + 1) (by decide) (recvKit d c)]
  iintro ⟨HK, ⟨H1, H2, H3⟩, ⟨H4, H5⟩, H6, H7⟩
  ihave HK := (fam_last d (kit c d)) $$ HK
  ihave H3 := (fam_last d (recvKit d c)) $$ H3
  isplitl [HK]; · iexact HK
  isplitl [H1]; · iexact H1
  isplitl [H2]; · iexact H2
  isplitl [H3]; · iexact H3
  isplitl [H4]; · iexact H4
  isplitl [H5]; · iexact H5
  isplitl [H6] <;> iassumption

/-- The transfers of a direction, all over. -/
theorem over_all (d : Bool) : iprop(bigSep (Finset.Ico 0 28) (over c d) ∗ over c d 28 ∗ over c d 29 ∗ over c d (lastN d)) ⊢ (fam d 0 (over c d) : sProp 𝕄) := by
  unfold fam
  iintro ⟨H1, H2, H3, H4⟩
  isplitl [H1 H2 H3]
  · iapply (over_two c d 14)
    isplitl [H1]; · iexact H1
    isplitl [H2]; · iexact H2
    iexact H3
  iexact H4

/-- Slot 15 comes back whole, and with it all up to it. -/
theorem slot_last (d : Bool) :
    iprop(pt d c (LR (2 * d.toNat) 30) fullShare (blk X d c) ∗ pt d c (SS 15) fullShare.right (blk X d c) ∗ pt d c (HS 15 0) fullShare.left (blk X d c) ∗ pt d c (HS 15 1) fullShare.left (blk X d c))
      ⊢ (pt d c (LR (2 * d.toNat) 32) fullShare (blk X d c) : sProp 𝕄) := by
  rw [← pt_union d c (SS_disjoint 15), ← LR_union (a := 2 * d.toNat) (b := 30) (e := 32) (by cases d <;> decide) (by decide), pt_union d c (LR_disjoint _ _ _),
    show LR 30 32 = SS 15 from (SS_LR 15).symm, pt_share d c (SS 15)]
  iintro ⟨H1, H2, H3⟩
  isplitl [H1]; · iexact H1
  isplitl [H3] <;> iassumption

/-- A wait while only one direction's last send is owed, -/
theorem mayWait_one {d : Bool} {sm : SemLoc sig} (h : lv ((c : Thread nD τ), sm) () < 17) :
    (levAts L lv : sProp 𝕄) ⊢ MayWait (c : Thread nD τ) sm () (Od d c 30) :=
  mayWait fun g u hg => by
    obtain ⟨n, h1, h2, rfl⟩ := Od_pos (le_refl 30) hg
    refine ⟨rfl, ?_⟩; rw [lv_recv _ h2]; omega
/-- and while nothing is. -/
theorem mayWait_none {sm : SemLoc sig} : (levAts L lv : sProp 𝕄) ⊢ MayWait (c : Thread nD τ) sm () 0 :=
  mayWait fun g u hg => absurd hg (Nat.lt_irrefl 0)

/-- What a device holds after the last hop. -/
def fin : sProp 𝕄 :=
  iprop(fam false 0 (over c false) ∗ fam true 0 (over c true) ∗ (∃ Wt, owes (c : Thread nD τ) 0 Wt)
    ∗ (tabP false c ∗ tabP true c ∗ wP wb c ∗ outP X wb sc c (fun _ => True))
    ∗ (pt false c (LR 0 32) fullShare (blk X false c) ∗ pt false c (HS 16 0) fullShare (blk X false c))
    ∗ (pt true c (LR 2 32) fullShare (blk X true c) ∗ pt true c (HS 16 1) fullShare (blk X true c)))

/-- The last two hops finish the result and end every transfer. -/
theorem last_step (Q : PUnit → sProp 𝕄) (k : P F) :
    iprop(invs X κ ∗ levAts L lv ∗ st X wb sc c 14)
      ⊢ iprop((fin X wb sc c -∗ W c k Q) -∗ W c (lastHops (nb false c) (nb true c) sc k) Q) := by
  have hc := dev_lt c
  have u8 : ∀ d, used d 28 := fun d => .inl (by decide)
  have u9 : ∀ d, used d 29 := fun d => .inl (by decide)
  have ul : ∀ d, used d (lastN d) := fun d => .inr rfl
  have l8 : ∀ d, lv (recvC d 28 c) () = 16 := fun d => lv_recv d (by decide) c
  have l9 : ∀ d, lv (recvC d 29 c) () = 16 := fun d => lv_recv d (by decide) c
  have e8 : LS 28 = HS 15 0 := rfl
  have e9 : LS 29 = HS 15 1 := rfl
  have e30 : LS 30 = HS 16 0 := rfl
  have e31 : LS 31 = HS 16 1 := rfl
  unfold st lastHops
  iintro ⟨#HI, #HL, Hf, Ht, HO, Hg⟩ HQ
  ihave Hf := (ring_last X c false) $$ Hf
  icases Hf with ⟨HfK, Hf0, Hf1, Hf2, HfS0, HfS1, HfO, Hfk⟩
  ihave Ht := (ring_last X c true) $$ Ht
  icases Ht with ⟨HtK, Ht0, Ht1, Ht2, HtS0, HtS1, HtO, Htk⟩
  iapply (relay_step X κ c Q false 14 15 rfl 0 28 rfl (u8 _) (ul false) (Od false c 30 + Od true c 30) (Od true c 30)
    ((congrArg (fun x => x + Od true c 30) (Od_last false c)).trans (add_comm _ _)) _
    (mayWait_sends (le_refl 30) (le_refl 30) ((l8 _).trans_lt (by decide)) ((l8 _).trans_lt (by decide)))) $$ [Hf0 HfK HO]
  · isplitr; · iexact HI
    isplitr; · iexact HL
    isplitl [Hf0]; · iexact Hf0
    isplitl [HfK]; · iexact HfK
    iexact HO
  iintro ⟨⟨%Wt, HO⟩, Hfa0, HfS2, Hfp0⟩
  iapply (waitRecv_step X κ c Q true 14 0 28 rfl (u8 _) (Od true c 30) Wt _ (mayWait_one c ((l8 _).trans_lt (by decide)))) $$ [Ht0 HO]
  · isplitr; · iexact HI
    isplitr; · iexact HL
    isplitl [Ht0] <;> iassumption
  iintro ⟨⟨%Wt, HO⟩, Hta0, Htp0⟩
  iapply (waitRecv_step X κ c Q false 14 1 29 rfl (u9 _) (Od true c 30) Wt _ (mayWait_one c ((l9 _).trans_lt (by decide)))) $$ [Hf1 HO]
  · isplitr; · iexact HI
    isplitr; · iexact HL
    isplitl [Hf1] <;> iassumption
  iintro ⟨HO, Hfa1, Hfp1⟩
  iapply (relay_step X κ c Q true 14 15 rfl 1 29 rfl (u9 _) (ul true) (Od true c 30) 0
    ((Od_last true c).trans (zero_add _).symm) _
    (mayWait_one c ((l9 _).trans_lt (by decide)))) $$ [Ht1 HtK HO]
  · isplitr; · iexact HI
    isplitr; · iexact HL
    isplitl [Ht1]; · iexact Ht1
    isplitl [HtK]; · iexact HtK
    iexact HO
  iintro ⟨HO, Hta1, HtS2, Htp1⟩
  ihave Hfp1 := (Entails.of_eq (pt_share false c (HS 15 1) (blk X false c))) $$ Hfp1
  ihave Htp0 := (Entails.of_eq (pt_share true c (HS 15 0) (blk X true c))) $$ Htp0
  icases Hfp1 with ⟨Hfl1, Hfp1⟩
  icases Htp0 with ⟨Htl0, Htp0⟩
  iapply (gemms_step X wb sc c Q 14 (by decide) _) $$ [Hg Hfp0 Hfp1 Htp0 Htp1]
  · isplitl [Hg]; · iexact Hg
    isplitl [Hfp0 Hfp1]
    · isplitl [Hfp0]; · iexact Hfp0
      iexact Hfp1
    · isplitl [Htp0]; · iexact Htp0
      iexact Htp1
  iintro ⟨⟨HT, HT', Hw, Ho⟩, Hfp, Htp⟩
  iapply (done_step X κ c Q true 14 0 28 rfl (u8 _) 0 _ (mayWait_none c)) $$ [HtS0 Hta0 HO]
  · isplitr; · iexact HI
    isplitr; · iexact HL
    isplitl [HtS0]; · iexact HtS0
    isplitl [Hta0] <;> iassumption
  iintro ⟨HO, Hta0, HtS0⟩
  iapply (done_step X κ c Q true 14 1 29 rfl (u9 _) 0 _ (mayWait_none c)) $$ [HtS1 Hta1 HO]
  · isplitr; · iexact HI
    isplitr; · iexact HL
    isplitl [HtS1]; · iexact HtS1
    isplitl [Hta1] <;> iassumption
  iintro ⟨HO, Hta1, HtS1⟩
  iapply (done_step X κ c Q false 14 0 28 rfl (u8 _) 0 _ (mayWait_none c)) $$ [HfS0 Hfa0 HO]
  · isplitr; · iexact HI
    isplitr; · iexact HL
    isplitl [HfS0]; · iexact HfS0
    isplitl [Hfa0] <;> iassumption
  iintro ⟨HO, Hfa0, HfS0⟩
  iapply (done_step X κ c Q false 14 1 29 rfl (u9 _) 0 _ (mayWait_none c)) $$ [HfS1 Hfa1 HO]
  · isplitr; · iexact HI
    isplitr; · iexact HL
    isplitl [HfS1]; · iexact HfS1
    isplitl [Hfa1] <;> iassumption
  iintro ⟨⟨%Wt, HO⟩, Hfa1, HfS1⟩
  ihave Hk := (regain X c 14) $$ [Hfk Htk HtS0 HtS1 HfS0 HfS1]
  · isplitl [Hfk]; · iexact Hfk
    isplitl [Htk]; · iexact Htk
    isplitl [HtS0 HtS1]
    · isplitl [HtS0]; · iexact HtS0
      iexact HtS1
    · isplitl [HfS0]; · iexact HfS0
      iexact HfS1
  icases Hk with ⟨Hfk, Htk⟩
  iapply (waitRecv_step X κ c Q false 15 0 30 rfl (ul false) 0 Wt _ (mayWait_none c)) $$ [Hf2 HO]
  · isplitr; · iexact HI
    isplitr; · iexact HL
    isplitl [Hf2]; · iexact Hf2
    iexact HO
  iintro ⟨⟨%Wt, HO⟩, Hfa2, Hf16⟩
  iapply (waitRecv_step X κ c Q true 15 1 31 rfl (ul true) 0 Wt _ (mayWait_none c)) $$ [Ht2 HO]
  · isplitr; · iexact HI
    isplitr; · iexact HL
    isplitl [Ht2]; · iexact Ht2
    iexact HO
  iintro ⟨HO, Hta2, Ht16⟩
  iapply (low_step X wb sc c Q (Dn c 15 15) (fun r => Dn c 15 15 r ∨ r / 64 = 2 * (across c).val) (fun r _ h => h) _) $$ [HT Hw Hf16 Ho]
  · isplitl [HT]; · iexact HT
    isplitl [Hw]; · iexact Hw
    isplitl [Hf16]; · iexact Hf16
    iexact Ho
  iintro ⟨HT, Hw, Hf16, Ho⟩
  iapply (high_step X wb sc c Q (fun r => Dn c 15 15 r ∨ r / 64 = 2 * (across c).val) (fun _ => True) (fun r hr _ => by
    rcases Dn_all c r hr with h | h
    · exact Or.inl (Or.inl h)
    · omega) _) $$ [HT' Hw Ht16 Ho]
  · isplitl [HT']; · iexact HT'
    isplitl [Hw]; · iexact Hw
    isplitl [Ht16]; · iexact Ht16
    iexact Ho
  iintro ⟨HT', Hw, Ht16, Ho⟩
  iapply (done_step X κ c Q true 15 1 31 rfl (ul true) 0 _ (mayWait_none c)) $$ [HtS2 Hta2 HO]
  · isplitr; · iexact HI
    isplitr; · iexact HL
    isplitl [HtS2]; · iexact HtS2
    isplitl [Hta2] <;> iassumption
  iintro ⟨HO, Hta2, HtS2⟩
  iapply (done_step X κ c Q false 15 0 30 rfl (ul false) 0 _ (mayWait_none c)) $$ [HfS2 Hfa2 HO]
  · isplitr; · iexact HI
    isplitr; · iexact HL
    isplitl [HfS2]; · iexact HfS2
    isplitl [Hfa2] <;> iassumption
  iintro ⟨HO, Hfa2, HfS2⟩
  ihave HtS2 := (Entails.of_eq (srcPts_eq X c true 31 (by decide))) $$ HtS2
  ihave HfS2 := (Entails.of_eq (srcPts_eq X c false 30 (by decide))) $$ HfS2
  iapply HQ
  unfold fin
  isplitl [HfO Hfa0 Hfa1 Hfa2]
  · iapply (over_all c false)
    isplitl [HfO]; · iexact HfO
    isplitl [Hfa0]; · iexact Hfa0
    isplitl [Hfa1] <;> iassumption
  isplitl [HtO Hta0 Hta1 Hta2]
  · iapply (over_all c true)
    isplitl [HtO]; · iexact HtO
    isplitl [Hta0]; · iexact Hta0
    isplitl [Hta1] <;> iassumption
  isplitl [HO]; · iexact HO
  isplitl [HT HT' Hw Ho]
  · isplitl [HT]; · iexact HT
    isplitl [HT']; · iexact HT'
    isplitl [Hw] <;> iassumption
  isplitl [Hfk Hfp HfS2 Hfl1 Hf16]
  · isplitr [Hf16]
    · iapply (slot_last X c false)
      isplitl [Hfk]; · iexact Hfk
      isplitl [Hfp]; · iexact Hfp
      isplitl [HfS2]; · iexact HfS2
      iexact Hfl1
    iexact Hf16
  · isplitr [Ht16]
    · iapply (slot_last X c true)
      isplitl [Htk]; · iexact Htk
      isplitl [Htp]; · iexact Htp
      isplitl [Htl0]; · iexact Htl0
      iexact HtS2
    iexact Ht16

end Last

/-! ## The handshake -/

/-- A direction's landing places as a run of halves. -/
theorem pt_slots (d : Bool) (c : Dev nD) (f : S17x128x4096.Idx → Elt F .fp8e4m3) : ∀ b,
    (pt d c (LR 2 (b + 2)) fullShare f : sProp 𝕄) = bigSep (Finset.Ico 0 b) fun n => pt d c (LS n) fullShare f
  | 0 => by rw [LR_self, pt_empty, Finset.Ico_self, bigSep_empty]; rfl
  | b + 1 => by
    rw [← LR_union (a := 2) (b := b + 2) (e := b + 1 + 2) (by omega) (by omega), pt_union d c (LR_disjoint _ _ _), pt_slots d c f b,
      show Finset.Ico 0 (b + 1) = insert b (Finset.Ico 0 b) by ext x; rw [Finset.mem_insert, Finset.mem_Ico, Finset.mem_Ico]; omega,
      bigSep_insert_eq (by rw [Finset.mem_Ico]; omega), show LR (b + 2) (b + 1 + 2) = LS b by
        rw [show b + 1 + 2 = b + 2 + 1 by omega, LR_one, show (b + 2) / 2 = b / 2 + 1 by omega, show (b + 2) % 2 = b % 2 by omega]]
    exact BI.Entails.antisymm (sep_comm (PROP := sProp 𝕄)).1 (sep_comm (PROP := sProp 𝕄)).1

/-- The half of slot 16 that no transfer of a direction fills. -/
abbrev idleJ (d : Bool) : ℕ := (!d).toNat

/-- What a device hands to the neighbour that sends to it: all its landing places. -/
theorem give (d : Bool) (c : Dev nD) (f : S17x128x4096.Idx → Elt F .fp8e4m3) :
    iprop(pt d c (LR 2 34) fullShare f ∗ fam d 0 (fun n => reached ER (recvC d n c) 0)) ⊢ (iprop(barPay d (nb (!d) c) ∗ pt d c (HS 16 (idleJ d)) fullShare f) : sProp 𝕄) := by
  have hn : nb d (nb (!d) c) = c := nb_nb d c
  unfold barPay
  rw [fam_sep, hn, ← LR_union (a := 2) (b := 30 + 2) (e := 34) (by decide) (by decide), pt_union d c (LR_disjoint _ _ _), pt_slots,
    show LR (30 + 2) 34 = SS 16 from (SS_LR 16).symm, pt_union d c (SS_disjoint 16)]
  have h1 : ∀ n, (pt d c (LS n) fullShare f : sProp 𝕄) ⊢ iprop(∃ f, pt d c (LS n) fullShare f) := fun n => by iintro H; iexists f; iexact H
  have h : (bigSep (Finset.Ico 0 30) fun n => pt d c (LS n) fullShare f : sProp 𝕄) ⊢ bigSep (Finset.Ico 0 30) fun n => iprop(∃ f, pt d c (LS n) fullShare f) :=
    bigSep_mono fun n _ => h1 n
  cases d with
  | false =>
    unfold fam
    iintro ⟨⟨H1, H2, H3⟩, Hr⟩
    isplitr [H3]
    · isplitr [Hr]
      · isplitl [H1]; · iapply h; iexact H1
        iexists f; iexact H2
      · iexact Hr
    iexact H3
  | true =>
    unfold fam
    iintro ⟨⟨H1, H2, H3⟩, Hr⟩
    isplitr [H2]
    · isplitr [Hr]
      · isplitl [H1]; · iapply h; iexact H1
        iexists f; iexact H3
      · iexact Hr
    iexact H2

/-- What a device is dealt for a direction: the rights to signal its sends and its neighbour's
    landings, its positions, and the credit of its own landings. -/
def deal (d : Bool) (c : Dev nD) : sProp 𝕄 :=
  iprop(fam d 0 (fun n => iprop(dutyTok ER (sendC d n c) 0 false ∗ reached ER (sendC d n c) 0 ∗ dutyTok ER (recvC d n (nb d c)) 0 false ∗ atPos ER (sendC d n c) 0 ∅ 0))
    ∗ fam d 0 (fun n => reached ER (recvC d n c) 0) ∗ fam d 0 (recvKit d c))

/-- What a device is dealt for the handshake. -/
def barDeal (c : Dev nD) : sProp 𝕄 :=
  iprop(dutyTok ER (barC (nb true c)) 0 false ∗ dutyTok ER (barC (nb false c)) 0 true ∗ atPos ER (barC c) 0 ∅ 0 ∗ cred (tallyAt (barC c) () 2))

/-- The rights dealt and the landing places the neighbour hands over make up what the sends need. -/
theorem kits (d : Bool) (c : Dev nD) :
    iprop(fam d 0 (fun n => iprop(dutyTok ER (sendC d n c) 0 false ∗ reached ER (sendC d n c) 0 ∗ dutyTok ER (recvC d n (nb d c)) 0 false ∗ atPos ER (sendC d n c) 0 ∅ 0)) ∗ barPay d c)
      ⊢ (fam d 0 (kit c d) : sProp 𝕄) := by
  unfold barPay
  rw [← fam_sep]
  refine fam_mono d 0 fun n _ => ?_
  unfold kit sendKit
  iintro ⟨⟨H1, H2, H3, H4⟩, H5, H6⟩
  isplitr [H4]
  · isplitl [H5]; · iexact H5
    isplitl [H1]; · iexact H1
    isplitl [H2]; · iexact H2
    isplitl [H3] <;> iassumption
  iexact H4

section Shake
variable (X : Dev nD → S128x4096.Idx → Elt F .fp8e4m3) (κ : GSem nD τ sig → ℕ) (c : Dev nD)

/-- The handshake: both neighbours are given this device's landing places, and give theirs. -/
theorem shake_step (Q : PUnit → sProp 𝕄) (f g : S17x128x4096.Idx → Elt F .fp8e4m3) (k : P F) :
    iprop(invs X κ ∗ levAts L lv ∗ pt false c (LR 2 34) fullShare f ∗ pt true c (LR 2 34) fullShare g ∗ deal false c ∗ deal true c ∗ barDeal c
        ∗ (∃ Wt, owes (c : Thread nD τ) (O₀ c) Wt))
      ⊢ iprop(((pt false c (HS 16 1) fullShare f ∗ pt true c (HS 16 0) fullShare g ∗ (fam false 0 (kit c false) ∗ fam false 0 (recvKit false c))
          ∗ (fam true 0 (kit c true) ∗ fam true 0 (recvKit true c)) ∗ atPos ER (barC c) 1 ∅ 0 ∗ (∃ Wt, owes (c : Thread nD τ) (Od false c 0 + Od true c 0) Wt)) -∗ W c k Q)
        -∗ W c (shake (nb false c) (nb true c) k) Q) := by
  unfold deal barDeal shake O₀
  iintro ⟨#HI, #HL, Hf, Hg, ⟨HfT, Hfr, HfR⟩, ⟨HtT, Htr, HtR⟩, ⟨HbL, HbR, Hba, Hbc⟩, ⟨%Wt, HO⟩⟩ HQ
  ihave Hf := (give false c f) $$ [Hf Hfr]
  · isplitl [Hf] <;> iassumption
  icases Hf with ⟨HfP, Hf⟩
  ihave Hg := (give true c g) $$ [Hg Htr]
  · isplitl [Hg] <;> iassumption
  icases Hg with ⟨HtP, Hg⟩
  iapply (Rounds.wp_signal 𝒱₀ ER (rd X) (c : Thread nD τ) none (dst := (nb true c : Thread nD τ)) (κ := κ (barC (nb true c))) (r := 0)
      (d := false) (by rw [duties_bar]; exact Finset.mem_univ _) ((amount_bar X (nb true c) false).trans (by decide)) () (Od false c 0 + Od true c 0 + tallyAt (barC (nb false c)) () 1) rfl)
    $$ [HO HbL HfP]
  · isplitr; · iapply (inv_bar X κ (nb true c)); iexact HI
    isplitl [HO]; · iexact HO
    isplitl [HbL]; · iexact HbL
    isplitl [HfP]; · rw [payload_bar]; iexact HfP
    iapply (bar_reached X κ (nb true c)); iexact HI
  iintro HO
  iapply (Rounds.wp_signal 𝒱₀ ER (rd X) (c : Thread nD τ) none (dst := (nb false c : Thread nD τ)) (κ := κ (barC (nb false c))) (r := 0)
      (d := true) (by rw [duties_bar]; exact Finset.mem_univ _) ((amount_bar X (nb false c) true).trans (by decide)) () (Od false c 0 + Od true c 0) rfl)
    $$ [HO HbR HtP]
  · isplitr; · iapply (inv_bar X κ (nb false c)); iexact HI
    isplitl [HO]; · iexact HO
    isplitl [HbR]; · iexact HbR
    isplitl [HtP]; · rw [payload_bar]; iexact HtP
    iapply (bar_reached X κ (nb false c)); iexact HI
  iintro HO
  iapply (Rounds.wp_wait_rest_token 𝒱₀ ER (rd X) (c : Thread nD τ) none (κ := κ (barC c))
      (wpE_semWait_eq 𝒱₀ (c : Thread nD τ) none Set.univ) (Set.mem_univ _) () (O := Od false c 0 + Od true c 0) (W := Wt) (R := 0) (m := 0) (T := ∅)
      (by rw [expect_bar]; decide)) $$ [Hbc HO Hba]
  · isplitr; · iapply (inv_bar X κ c); iexact HI
    isplitl [Hbc]; · iexact Hbc
    isplitl [HO]; · iexact HO
    isplitr
    · iapply (mayWait_sends (c := c) (k := 0) (k' := 0) (by decide) (by decide) ((lv_bar c).trans_lt (by decide)) ((lv_bar c).trans_lt (by decide))); iexact HL
    iexact Hba
  iintro ⟨HO, Hba, -, Hp⟩
  ihave Hp := (Entails.of_eq (rest_bar X c)) $$ Hp
  icases Hp with ⟨HpF, HpT⟩
  iapply HQ
  isplitl [Hf]; · iexact Hf
  isplitl [Hg]; · iexact Hg
  isplitl [HfT HpF HfR]
  · isplitr [HfR]
    · iapply (kits false c); isplitl [HfT] <;> iassumption
    iexact HfR
  isplitl [HtT HpT HtR]
  · isplitr [HtR]
    · iapply (kits true c); isplitl [HtT] <;> iassumption
    iexact HtR
  isplitl [Hba]; · iexact Hba
  iexists _; iexact HO

/-- The four sends of the device's own block. -/
theorem first_sends (Q : PUnit → sProp 𝕄) (k : P F) :
    iprop(invs X κ ∗ pt false c (LR 0 2) fullShare (blk X false c) ∗ fam false 0 (kit c false) ∗ fam true 0 (kit c true) ∗ (∃ Wt, owes (c : Thread nD τ) (Od false c 0 + Od true c 0) Wt))
      ⊢ iprop(((fam false 2 (kit c false) ∗ (sentKit false c 0 ∗ sentKit false c 1) ∗ fam true 2 (kit c true) ∗ (sentKit true c 0 ∗ sentKit true c 1)
          ∗ (∃ Wt, owes (c : Thread nD τ) (Od false c 2 + Od true c 2) Wt)) -∗ W c k Q)
        -∗ W c (send false (nb false c) 0 0 <| send false (nb false c) 0 1 <| send true (nb true c) 0 0 <| send true (nb true c) 0 1 k) Q) := by
  have u0 : ∀ d, used d 0 := fun d => .inl (by decide)
  have u1 : ∀ d, used d 1 := fun d => .inl (by decide)
  have e : ∀ j, j < 2 → (srcPts X true j c : sProp 𝕄) = pt false c (HS 0 j) fullShare.right (blk X false c) := fun j hj => by
    unfold srcPts; rw [if_pos ⟨rfl, by omega⟩, Nat.mod_eq_of_lt hj]
  have e' : ∀ j, j < 2 → (srcPts X false j c : sProp 𝕄) = pt false c (HS 0 j) fullShare.left (blk X false c) := fun j hj => by
    unfold srcPts; rw [if_neg (fun h => Bool.noConfusion h.1), Nat.mod_eq_of_lt hj, show j / 2 = 0 by omega]
  rw [show LR 0 2 = SS 0 from (SS_LR 0).symm, pt_union false c (SS_disjoint 0), pt_share false c (HS 0 0), pt_share false c (HS 0 1),
    ← e 0 (by decide), ← e 1 (by decide), ← e' 0 (by decide), ← e' 1 (by decide),
    fam_step false (k := 0) (by decide) (kit c false), fam_step false (k := 0 + 1) (by decide) (kit c false), fam_step true (k := 0) (by decide) (kit c true), fam_step true (k := 0 + 1) (by decide) (kit c true)]
  unfold kit
  iintro ⟨#HI, ⟨⟨Hf0, Ht0⟩, Hf1, Ht1⟩, ⟨⟨Hfk0, Hfa0⟩, ⟨Hfk1, Hfa1⟩, HfK⟩, ⟨⟨Htk0, Hta0⟩, ⟨Htk1, Hta1⟩, HtK⟩, ⟨%Wt, HO⟩⟩ HQ
  iapply (send_step X κ c Q false 0 0 0 rfl (u0 _) (nb false c) rfl (Od false c 1 + Od true c 0)
    ((congrArg (fun x => x + Od true c 0) (Od_step false c (k := 0) (by decide))).trans (add_right_comm _ _ _)) Wt _) $$ [Hf0 Hfk0 HO]
  · isplitr; · iexact HI
    isplitl [Hf0]; · iexact Hf0
    isplitl [Hfk0] <;> iassumption
  iintro ⟨Hfc0, HO⟩
  iapply (send_step X κ c Q false 0 1 1 rfl (u1 _) (nb false c) rfl (Od false c 2 + Od true c 0)
    ((congrArg (fun x => x + Od true c 0) (Od_step false c (k := 1) (by decide))).trans (add_right_comm _ _ _)) Wt _) $$ [Hf1 Hfk1 HO]
  · isplitr; · iexact HI
    isplitl [Hf1]; · iexact Hf1
    isplitl [Hfk1]; · iexact Hfk1
    iexact HO
  iintro ⟨Hfc1, HO⟩
  iapply (send_step X κ c Q true 0 0 0 rfl (u0 _) (nb true c) rfl (Od false c 2 + Od true c 1)
    ((congrArg (fun x => Od false c 2 + x) (Od_step true c (k := 0) (by decide))).trans (add_assoc _ _ _).symm) Wt _) $$ [Ht0 Htk0 HO]
  · isplitr; · iexact HI
    isplitl [Ht0]; · iexact Ht0
    isplitl [Htk0] <;> iassumption
  iintro ⟨Htc0, HO⟩
  iapply (send_step X κ c Q true 0 1 1 rfl (u1 _) (nb true c) rfl (Od false c 2 + Od true c 2)
    ((congrArg (fun x => Od false c 2 + x) (Od_step true c (k := 1) (by decide))).trans (add_assoc _ _ _).symm) Wt _) $$ [Ht1 Htk1 HO]
  · isplitr; · iexact HI
    isplitl [Ht1]; · iexact Ht1
    isplitl [Htk1]; · iexact Htk1
    iexact HO
  iintro ⟨Htc1, HO⟩
  iapply HQ
  unfold sentKit
  isplitl [HfK]; · iexact HfK
  isplitl [Hfa0 Hfc0 Hfa1 Hfc1]
  · isplitl [Hfa0 Hfc0]
    · isplitl [Hfa0] <;> iassumption
    · isplitl [Hfa1]; · iexact Hfa1
      iexact Hfc1
  isplitl [HtK]; · iexact HtK
  isplitl [Hta0 Htc0 Hta1 Htc1]
  · isplitl [Hta0 Htc0]
    · isplitl [Hta0] <;> iassumption
    · isplitl [Hta1]; · iexact Hta1
      iexact Htc1
  iexists Wt; iexact HO

end Shake

/-! ## The body -/

section Body
variable (X : Dev nD → S128x4096.Idx → Elt F .fp8e4m3) (κ : GSem nD τ sig → ℕ) (c : Dev nD)
variable (w8 : S4096x64.Idx → Elt F .fp8e5m2) (s2 s3 : S1.Idx → Elt F .f32)

/-- A whole buffer from its pieces. -/
theorem whole_r (f : S17x128x4096.Idx → Elt F .fp8e4m3) (g : S17x128x4096.Idx → Elt F .fp8e4m3) :
    iprop((pt false c (LR 0 32) fullShare g ∗ pt false c (HS 16 0) fullShare g) ∗ pt false c (HS 16 1) fullShare f) ⊢ (iprop(∃ f, ((c : Thread nD τ).loc cc0_scratch0) ↦{fullShare} f) : sProp 𝕄) := by
  have hd : Disjoint (LR 0 32) (HS 16 0) := (LR_disjoint 0 32 33).mono_right (by rw [LR_one])
  have hd' : Disjoint (LR 0 32 ∪ HS 16 0) (HS 16 1) := by
    rw [show HS 16 0 = LR 32 33 from (LR_one 32).symm, LR_union (by decide) (by decide), show HS 16 1 = LR 33 34 from (LR_one 33).symm]
    exact LR_disjoint _ _ _
  have hu : (LR 0 32 ∪ HS 16 0) ∪ HS 16 1 = Finset.univ := by
    rw [show HS 16 0 = LR 32 33 from (LR_one 32).symm, LR_union (by decide) (by decide), show HS 16 1 = LR 33 34 from (LR_one 33).symm, LR_union (by decide) (by decide), LR_all]
  rw [← pt_union false c hd]
  refine (pt_join false c hd' fullShare g f).trans ?_
  rw [hu]
  unfold pt
  iintro H; iexists _; iexact H

theorem whole_l (f f' : S17x128x4096.Idx → Elt F .fp8e4m3) (g : S17x128x4096.Idx → Elt F .fp8e4m3) :
    iprop((pt true c (LR 2 32) fullShare g ∗ pt true c (HS 16 1) fullShare g) ∗ pt true c (LR 0 2) fullShare f ∗ pt true c (HS 16 0) fullShare f) ⊢ (iprop(∃ f, ((c : Thread nD τ).loc cc0_scratch1) ↦{fullShare} f) : sProp 𝕄) := by
  have e0 : HS 16 0 = LR 32 33 := (LR_one 32).symm
  have e1 : HS 16 1 = LR 33 34 := (LR_one 33).symm
  have hd : Disjoint (LR 2 32) (HS 16 1) := by
    rw [e1, Finset.disjoint_left]; intro i h h'; rw [mem_LR] at h h'; omega
  have hd1 : Disjoint (LR 0 2) (HS 16 0) := by
    rw [e0, Finset.disjoint_left]; intro i h h'; rw [mem_LR] at h h'; omega
  have hd2 : Disjoint (LR 2 32 ∪ HS 16 1) (LR 0 2 ∪ HS 16 0) := by
    rw [e0, e1, Finset.disjoint_left]; intro i h h'; rw [Finset.mem_union, mem_LR, mem_LR] at h h'; omega
  have hu : (LR 2 32 ∪ HS 16 1) ∪ (LR 0 2 ∪ HS 16 0) = Finset.univ := by
    rw [← LR_all, e0, e1]; ext i; simp only [Finset.mem_union, mem_LR]; omega
  rw [← pt_union true c hd, ← pt_union true c hd1]
  refine (pt_join true c hd2 fullShare g f).trans ?_
  rw [hu]
  unfold pt
  iintro H; iexists _; iexact H

/-- A program that has ended. -/
theorem done (Q : PUnit → sProp 𝕄) : Q ⟨⟩ ⊢ W c (.ret ⟨⟩) Q := by
  unfold W
  rw [wp_ret]
  iintro H
  imodintro
  iexact H

/-- The arrays a device's body reads, as staged. -/
def ins : sProp 𝕄 :=
  iprop((((c : Thread nD τ).loc cc0_stg0_0) ↦{fullShare} X c) ∗ (((c : Thread nD τ).loc cc0_stg1_0) ↦{fullShare} w8)
    ∗ (((c : Thread nD τ).loc cc0_stg2_0) ↦{fullShare} s2) ∗ (((c : Thread nD τ).loc cc0_stg3_0) ↦{fullShare} s3)
    ∗ (((c : Thread nD τ).loc cc0_stg4_0) ↦{fullShare} nbT (F := F) c) ∗ tabP false c ∗ tabP true c)

/-- The scratch buffers, at any contents. -/
def scr : sProp 𝕄 :=
  iprop((∃ f, ((c : Thread nD τ).loc cc0_scratch0) ↦{fullShare} (f : S17x128x4096.Idx → Elt F .fp8e4m3)) ∗ (∃ f, ((c : Thread nD τ).loc cc0_scratch1) ↦{fullShare} (f : S17x128x4096.Idx → Elt F .fp8e4m3))
    ∗ (∃ f, ((c : Thread nD τ).loc cc0_scratch2) ↦{fullShare} (f : S4096x64.Idx → Elt F .bf16)))

/-- The body's rule: from the staged arrays and what the device is dealt, the result is written, every
    transfer is over, and nothing is owed. -/
theorem body_step (Q : PUnit → sProp 𝕄) :
    iprop(invs X κ ∗ levAts L lv ∗ ins X c w8 s2 s3 ∗ scr c ∗ (∃ f, ((c : Thread nD τ).loc cc0_stg7_0) ↦{fullShare} (f : S4096x64.Idx → Elt F .f32))
        ∗ deal false c ∗ deal true c ∗ barDeal c ∗ (∃ Wt, owes (c : Thread nD τ) (O₀ c) Wt))
      ⊢ iprop(((ins X c w8 s2 s3 ∗ scr c ∗ (((c : Thread nD τ).loc cc0_stg7_0) ↦{fullShare} G X (k0_pay3 w8) (k0_pay2 (s2 (ix1 0)) (s3 (ix1 0))) c)
          ∗ fam false 0 (over c false) ∗ fam true 0 (over c true) ∗ atPos ER (barC c) 1 ∅ 0 ∗ (∃ Wt, owes (c : Thread nD τ) 0 Wt)) -∗ Q ⟨⟩) -∗ W c body Q) := by
  have hc := dev_lt c
  unfold body ins scr
  iintro ⟨#HI, #HL, ⟨H0, H1, H2, H3, H4, HT, HT'⟩, ⟨⟨%f, Hf⟩, ⟨%g, Hg⟩, ⟨%fw, Hw⟩⟩, ⟨%fo, Ho⟩, HdF, HdT, HdB, HO⟩ HQ
  iapply (neighbours_step c Q _) $$ H4; iintro H4
  iapply (place_step X c Q f _) $$ [H0 Hf]
  · isplitl [H0] <;> iassumption
  iintro ⟨H0, Hf0, Hf⟩
  ihave Hg := (Entails.of_eq (show (((c : Thread nD τ).loc cc0_scratch1) ↦{fullShare} g : sProp 𝕄) = iprop(pt true c (LR 0 2) fullShare g ∗ pt true c (LR 2 34) fullShare g) by
    rw [← pt_union true c (LR_disjoint _ _ _), LR_union (by decide) (by decide), LR_all]; rfl)) $$ Hg
  icases Hg with ⟨Hg0, Hg⟩
  iapply (shake_step X κ c Q f g _) $$ [Hf Hg HdF HdT HdB HO]
  · isplitr; · iexact HI
    isplitr; · iexact HL
    isplitl [Hf]; · iexact Hf
    isplitl [Hg]; · iexact Hg
    isplitl [HdF]; · iexact HdF
    isplitl [HdT]; · iexact HdT
    isplitl [HdB] <;> iassumption
  iintro ⟨Hf16, Hg16, ⟨HfK, HfR⟩, ⟨HtK, HtR⟩, Hba, HO⟩
  iapply (scale_step c Q s2 s3 _) $$ [H2 H3]
  · isplitl [H2] <;> iassumption
  iintro ⟨H2, H3⟩
  generalize hsc : k0_pay2 (s2 (ix1 0)) (s3 (ix1 0)) = sc
  generalize hwb : k0_pay3 w8 = wb
  iapply (first_sends X κ c Q _) $$ [Hf0 HfK HtK HO]
  · isplitr; · iexact HI
    isplitl [Hf0]; · iexact Hf0
    isplitl [HfK]; · iexact HfK
    isplitl [HtK] <;> iassumption
  iintro ⟨HfK, HfS, HtK, HtS, HO⟩
  iapply (own_step X sc c Q w8 fw _) $$ [H1 Hw H0 Ho]
  · isplitl [H1]; · iexact H1
    isplitl [Hw]; · iexact Hw
    isplitl [H0]; · iexact H0
    unfold outP
    iexists fo
    isplitr; · ipureintro; exact fun i h => h.elim
    iexact Ho
  rw [hwb]
  iintro ⟨H1, Hw, H0, Ho⟩
  ihave Ho := (outP_mono X wb sc c (D' := Dn c 0 0) (fun r hr h => Dn_zero c r hr h)) $$ Ho
  iapply (hops_step X κ wb sc c Q _ 14 (le_refl _)) $$ [HfK HfS HfR HtK HtS HtR HO HT HT' Hw Ho]
  · isplitr; · iexact HI
    isplitr; · iexact HL
    unfold st ring keep
    rw [show (14 - 14) = 0 from rfl, show 2 * 0 = 0 from rfl, show 0 + 2 = 2 from rfl, show 0 + 1 = 1 from rfl, Finset.Ico_self, bigSep_empty, bigSep_empty, if_pos rfl, if_pos rfl,
      show LR (2 * false.toNat) 0 = ∅ from LR_self 0, show LR (2 * true.toNat) 0 = ∅ from Finset.eq_empty_of_forall_notMem (fun i h => by rw [mem_LR] at h; omega), pt_empty, pt_empty]
    isplitl [HfK HfR HfS]
    · isplitl [HfK]; · iexact HfK
      isplitl [HfR]; · iexact HfR
      isplitl [HfS]; · iexact HfS
      isplitl; · iempintro
      isplitl <;> iempintro
    isplitl [HtK HtR HtS]
    · isplitl [HtK]; · iexact HtK
      isplitl [HtR]; · iexact HtR
      isplitl [HtS]; · iexact HtS
      isplitl; · iempintro
      isplitl <;> iempintro
    isplitl [HO]; · iexact HO
    isplitl [HT]; · iexact HT
    isplitl [HT']; · iexact HT'
    isplitl [Hw] <;> iassumption
  iintro Hst
  iapply (last_step X κ wb sc c Q _) $$ [Hst]
  · isplitr; · iexact HI
    isplitr; · iexact HL
    iexact Hst
  unfold fin outP wP
  iintro ⟨HfO, HtO, HO, ⟨HT, HT', Hw, ⟨%fo, %hfo, Ho⟩⟩, Hf, Hg⟩
  iapply (done c Q)
  iapply HQ
  have hfo' : fo = G X wb sc c := funext fun i => hfo i trivial
  subst hfo'
  isplitl [H0 H1 H2 H3 H4 HT HT']
  · isplitl [H0]; · iexact H0
    isplitl [H1]; · iexact H1
    isplitl [H2]; · iexact H2
    isplitl [H3]; · iexact H3
    isplitl [H4]; · iexact H4
    isplitl [HT] <;> iassumption
  isplitl [Hf Hf16 Hg Hg0 Hg16 Hw]
  · isplitl [Hf Hf16]
    · iapply (whole_r c f (blk X false c)); isplitl [Hf] <;> iassumption
    isplitl [Hg Hg0 Hg16]
    · iapply (whole_l c g g (blk X true c)); isplitl [Hg]; · iexact Hg
      isplitl [Hg0] <;> iassumption
    iexists _; iexact Hw
  isplitl [Ho]; · iexact Ho
  isplitl [HfO]; · iexact HfO
  isplitl [HtO]; · iexact HtO
  isplitl [Hba] <;> iassumption

end Body

end Cert.KernelIdeal.Ring
-- ==== Proof.Tables.lean ====
module
/- What the host operations before the kernel leave: the device's row of the table of the ring, cut
   into its neighbours and the two lists of devices its blocks come from. -/
public import proofs.«01_k».proof.Proof.Body
public import Idealize.ShloMosaic.Lib.DynamicIndex

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

/-- Contents at the launch, and after the host operations. -/
abbrev V₀ (m : (ℓ : Loc nD τ sig) → Buf (Elt F) ℓ) (c : Dev nD) : Valuation τ sig (Elt F) := fun b => m ((c : Dev nD), b)
abbrev V₁ (m : (ℓ : Loc nD τ sig) → Buf (Elt F) ℓ) (c : Dev nD) : Valuation τ sig (Elt F) := StableHlo.after (hostOps0 c) (V₀ m c)

variable (m : (ℓ : Loc nD τ sig) → Buf (Elt F) ℓ) (c : Dev nD)

theorem V₁_arg0 : V₁ m c main_arg0 = m (c, Proc.devRef .tc main_arg0) := by
  show StableHlo.after (hostOps0 c) (V₀ m c) (Proc.devRef .tc main_arg0) = _
  after_results

/-- The contents before the table is cut. -/
abbrev Vc : Valuation τ sig (Elt F) := StableHlo.after ((hostOps0 c).take 20) (V₀ m c)

theorem V₁_eq : V₁ m c = StableHlo.after ((hostOps0 c).drop 20) (Vc m c) := by
  rw [← StableHlo.after_append, List.take_append_drop]

theorem word_row (c : Dev nD) : (Scalar.select (Scalar.cmpi .slt (Scalar.remui (Scalar.divui (Dev.word c) 1#32) 32#32) 0#32)
    (Scalar.addi (Scalar.remui (Scalar.divui (Dev.word c) 1#32) 32#32) 32#32) (Scalar.remui (Scalar.divui (Dev.word c) 1#32) 32#32)).toInt = c.val := by
  revert c; decide +kernel

theorem Vc_c : Vc m c main_c = fun i => lit0 (S32x34.rowMajor i) := by
  show StableHlo.after ((hostOps0 c).take 20) (V₀ m c) (Proc.devRef .tc main_c) = _
  simp only [hostOps0, List.take_succ_cons, List.take_zero]
  after_results
  rfl

theorem Vc_v7 (i) : (Vc m c main_v7 i : BitVec 32).toInt = c.val := by
  have : Vc m c main_v7 = StableHlo.after ((hostOps0 c).take 20) (V₀ m c) (Proc.devRef .tc main_v7) := rfl
  rw [this]
  simp only [hostOps0, List.take_succ_cons, List.take_zero]
  after_results
  exact word_row c

theorem Vc_v10 (i) : (Vc m c main_v10 i : BitVec 32).toInt = 0 := by
  have : Vc m c main_v10 = StableHlo.after ((hostOps0 c).take 20) (V₀ m c) (Proc.devRef .tc main_v10) := rfl
  rw [this]
  simp only [hostOps0, List.take_succ_cons, List.take_zero]
  after_results
  rfl

theorem row_slices (c : Dev nD) : S32x34.Slices ![c.val, 0] S1x34 := by revert c; decide +kernel

/-- The device's row of the table, as a list. -/
def row (c : Dev nD) : S34.Idx → BitVec 32 :=
  shapeCast S34 (extractStridedSlice S1x34 ![c.val, 0] (fun i => lit0 (S32x34.rowMajor i)) (row_slices c)) shapeCasts_S1x34_S34

set_option maxRecDepth 100000 in
theorem row_nb : ∀ (c : Dev nD) (i : S2.Idx), extractStridedSlice S2 ![0] (row c) slices_S34_S2_0 i = BitVec.ofNat 32 (nb ((i 0).val == 1) c).val := by
  decide +kernel
set_option maxRecDepth 100000 in
theorem row_right : ∀ (c : Dev nD) (i : S16.Idx), extractStridedSlice S16 ![2] (row c) slices_S34_S16_2 i = BitVec.ofNat 32 (org false c ((i 0).val + 1)).val := by
  decide +kernel
set_option maxRecDepth 100000 in
theorem row_left : ∀ (c : Dev nD) (i : S16.Idx), extractStridedSlice S16 ![18] (row c) slices_S34_S16_18 i = BitVec.ofNat 32 (org true c ((i 0).val + 1)).val := by
  decide +kernel

theorem V₁_v12 : V₁ m c main_v12 = row c := by
  rw [V₁_eq]
  show StableHlo.after ((hostOps0 c).drop 20) (Vc m c) (Proc.devRef .tc main_v12) = _
  simp only [hostOps0, List.drop_succ_cons, List.drop_zero]
  after_results
  rw [Host.dynamicSlice_eq_extractStridedSlice S1x34 _ _ ![c.val, 0] sliceFits_S32x34_S1x34 (row_slices c) (fun a => by
    fin_cases a
    · exact Vc_v7 m c _
    · exact Vc_v10 m c _), Vc_c]
  rfl

/-- The neighbours. -/
theorem V₁_v13 : V₁ m c main_v13 = nbT c := by
  have h : V₁ m c main_v13 = extractStridedSlice S2 ![0] (V₁ m c main_v12) slices_S34_S2_0 := by
    rw [V₁_eq]
    show StableHlo.after ((hostOps0 c).drop 20) (Vc m c) (Proc.devRef .tc main_v13) = extractStridedSlice S2 ![0] (StableHlo.after ((hostOps0 c).drop 20) (Vc m c) (Proc.devRef .tc main_v12)) slices_S34_S2_0
    simp only [hostOps0, List.drop_succ_cons, List.drop_zero]
    after_results
  rw [h, V₁_v12]
  exact funext (row_nb c)

/-- The devices the blocks going right come from. -/
theorem V₁_v14 : V₁ m c main_v14 = tabV false c := by
  have h : V₁ m c main_v14 = extractStridedSlice S16 ![2] (V₁ m c main_v12) slices_S34_S16_2 := by
    rw [V₁_eq]
    show StableHlo.after ((hostOps0 c).drop 20) (Vc m c) (Proc.devRef .tc main_v14) = extractStridedSlice S16 ![2] (StableHlo.after ((hostOps0 c).drop 20) (Vc m c) (Proc.devRef .tc main_v12)) slices_S34_S16_2
    simp only [hostOps0, List.drop_succ_cons, List.drop_zero]
    after_results
  rw [h, V₁_v12]
  exact funext (row_right c)

/-- The devices the blocks going left come from. -/
theorem V₁_v15 : V₁ m c main_v15 = tabV true c := by
  have h : V₁ m c main_v15 = extractStridedSlice S16 ![18] (V₁ m c main_v12) slices_S34_S16_18 := by
    rw [V₁_eq]
    show StableHlo.after ((hostOps0 c).drop 20) (Vc m c) (Proc.devRef .tc main_v15) = extractStridedSlice S16 ![18] (StableHlo.after ((hostOps0 c).drop 20) (Vc m c) (Proc.devRef .tc main_v12)) slices_S34_S16_18
    simp only [hostOps0, List.drop_succ_cons, List.drop_zero]
    after_results
  rw [h, V₁_v12]
  exact funext (row_left c)

theorem V₁_arg1 : V₁ m c main_arg1 = m (c, Proc.devRef .tc main_arg1) := by
  show StableHlo.after (hostOps0 c) (V₀ m c) (Proc.devRef .tc main_arg1) = _
  after_results
theorem V₁_arg2 : V₁ m c main_arg2 = m (c, Proc.devRef .tc main_arg2) := by
  show StableHlo.after (hostOps0 c) (V₀ m c) (Proc.devRef .tc main_arg2) = _
  after_results
theorem V₁_arg3 : V₁ m c main_arg3 = m (c, Proc.devRef .tc main_arg3) := by
  show StableHlo.after (hostOps0 c) (V₀ m c) (Proc.devRef .tc main_arg3) = _
  after_results

end Cert.KernelIdeal.Ring
-- ==== Proof.Ends.lean ====
module
/- The two ends of the kernel on one device: its semaphores' cells are opened when it starts, each at
   round 0, and closed when it ends, each counter at zero again. -/
public import proofs.«01_k».proof.Proof.Tables

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

/-! ## All the transfers' cells of a device -/

/-- The number no transfer of a direction has. -/
abbrev idleN : Bool → ℕ | false => 31 | true => 30

theorem idle_not_used (d : Bool) : ¬ used d (idleN d) := by
  cases d <;> simp only [used, lastN, idleN] <;> omega
theorem idle_lt (d : Bool) : idleN d < 32 := by cases d <;> decide

/-- All 32 numbers are those of the transfers and the idle one. -/
theorem all_numbers (d : Bool) (Φ : ℕ → sProp 𝕄) :
    bigSep (Finset.univ : Finset (Fin 32)) (fun n => Φ n.val) = iprop(fam d 0 Φ ∗ Φ (idleN d)) := by
  have e : bigSep (Finset.univ : Finset (Fin 32)) (fun n => Φ n.val) = bigSep (Finset.univ.map Fin.valEmbedding) Φ := (bigSep_map Fin.valEmbedding).symm
  have e' : (Finset.univ : Finset (Fin 32)).map Fin.valEmbedding = insert (idleN d) (insert (lastN d) (Finset.Ico 0 30)) := by
    cases d <;> decide
  rw [e, e', bigSep_insert_eq (by cases d <;> decide), bigSep_insert_eq (by cases d <;> decide)]
  unfold fam
  have h1 : iprop(Φ (idleN d) ∗ Φ (lastN d) ∗ bigSep (Finset.Ico 0 30) Φ) ⊢ iprop((bigSep (Finset.Ico 0 30) Φ ∗ Φ (lastN d)) ∗ Φ (idleN d)) := by
    iintro ⟨H1, H2, H3⟩
    isplitr [H1]
    · isplitl [H3] <;> iassumption
    iexact H1
  have h2 : iprop((bigSep (Finset.Ico 0 30) Φ ∗ Φ (lastN d)) ∗ Φ (idleN d)) ⊢ iprop(Φ (idleN d) ∗ Φ (lastN d) ∗ bigSep (Finset.Ico 0 30) Φ) := by
    iintro ⟨⟨H3, H2⟩, H1⟩
    isplitl [H1]; · iexact H1
    isplitl [H2] <;> iassumption
  exact BI.Entails.antisymm h1 h2

/-- A device's cell of a transfer: `b` tells the landing from the send. -/
def scC (d b : Bool) (n : ℕ) (c : Dev nD) : GSem nD τ sig := match b with | true => recvC d n c | false => sendC d n c

theorem scC_osem (k : ScIx) (c : Dev nD) : ((c : Thread nD τ), osem k) = scC k.1 k.2.1 k.2.2.val c := by
  obtain ⟨d, b, n⟩ := k; cases b <;> rfl

theorem bigSep_two (Φ : Bool → sProp 𝕄) : bigSep Finset.univ Φ = iprop(Φ false ∗ Φ true) := by
  rw [bigSep_univ_eq_bigSepL [false, true] (by decide) (by decide), bigSepL_cons_cons, bigSepL_singleton]; rfl

/-- One assertion for each of a device's cells, sorted by direction and use. -/
theorem all_cells (Φ : GSem nD τ sig → sProp 𝕄) (c : Dev nD) :
    bigSep Finset.univ (fun k : ScIx => Φ ((c : Thread nD τ), osem k))
      = iprop(((fam false 0 (fun n => Φ (sendC false n c)) ∗ Φ (sendC false 31 c)) ∗ (fam false 0 (fun n => Φ (recvC false n c)) ∗ Φ (recvC false 31 c)))
          ∗ ((fam true 0 (fun n => Φ (sendC true n c)) ∗ Φ (sendC true 30 c)) ∗ (fam true 0 (fun n => Φ (recvC true n c)) ∗ Φ (recvC true 30 c)))) := by
  rw [bigSep_univ_prod, bigSep_two, bigSep_univ_prod, bigSep_two, bigSep_univ_prod, bigSep_two]
  rw [← all_numbers false (fun n => Φ (sendC false n c)), ← all_numbers false (fun n => Φ (recvC false n c)),
    ← all_numbers true (fun n => Φ (sendC true n c)), ← all_numbers true (fun n => Φ (recvC true n c))]

section Ends
variable (X : Dev nD → S128x4096.Idx → Elt F .fp8e4m3) (κ : GSem nD τ sig → ℕ) (c : Dev nD)

theorem inv_sc (k : ScIx) : invs (F := F) X κ ⊢ cellInv ER (rd X) (κ ((c : Thread nD τ), osem k)) ((c : Thread nD τ), osem k) := by
  unfold invs
  exact sep_elim_left.trans (bigSep_elim (Finset.mem_union_right _ (Finset.mem_map_of_mem scEmb (Finset.mem_univ (c, k)))))

/-- The rights to pay for a direction's sends, kept from the launch, -/
def toksD (d : Bool) (c : Dev nD) : sProp 𝕄 :=
  iprop(fam d 0 (fun n => dutyTok ER (sendC d n c) 0 false) ∗ fam d 0 (fun n => dutyTok ER (recvC d n (nb d c)) 0 false))
/-- and the credits for its landings. -/
def credsD (d : Bool) (c : Dev nD) : sProp 𝕄 := fam d 0 (fun n => cred (tallyAt (recvC d n c) () N))

/-- The two cells of a direction that no transfer uses. -/
def idle (d : Bool) (c : Dev nD) : sProp 𝕄 :=
  iprop(atPos ER (sendC d (idleN d) c) 0 ∅ 0 ∗ atPos ER (recvC d (idleN d) c) 0 ∅ 0)

/-- Every cell of the device is opened at round 0. -/
theorem open_cells : iprop(invs X κ ∗ (bigSep Finset.univ fun k : ScIx => openTok ER ((c : Thread nD τ), osem k)) ∗ Pipeline.ownSems0 osem c)
    ⊢ (|={Set.univ}=> bigSep Finset.univ fun k : ScIx => iprop(atPos ER ((c : Thread nD τ), osem k) 0 ∅ 0 ∗ reached ER ((c : Thread nD τ), osem k) 0) : sProp 𝕄) := by
  refine BI.Entails.trans ?_ (bigSep_fupd _ _)
  unfold Pipeline.ownSems0
  rw [← bigSep_sep']
  refine bigSep_with_persistent fun k _ => ?_
  iintro ⟨#HI, Ho, Hv⟩
  iapply (Rounds.cell_open ER (rd X) (Set.mem_univ (κ ((c : Thread nD τ), osem k))))
  isplitr; · iapply (inv_sc X κ c k); iexact HI
  isplitl [Ho] <;> iassumption

/-- Sorted out of a direction's share: what the body takes for it. -/
theorem deal_intro (d : Bool) :
    iprop((fam d 0 (fun n => iprop(atPos ER (sendC d n c) 0 ∅ 0 ∗ reached ER (sendC d n c) 0)))
        ∗ (fam d 0 (fun n => iprop(atPos ER (recvC d n c) 0 ∅ 0 ∗ reached ER (recvC d n c) 0))) ∗ toksD d c ∗ credsD d c)
      ⊢ (deal d c : sProp 𝕄) := by
  unfold deal toksD credsD
  have e : (fam d 0 (recvKit d c) : sProp 𝕄) = iprop(fam d 0 (fun n => atPos ER (recvC d n c) 0 ∅ 0) ∗ fam d 0 (fun n => cred (tallyAt (recvC d n c) () N))) :=
    fam_sep d 0 _ _
  rw [e, fam_sep, fam_sep, fam_sep, fam_sep, fam_sep]
  iintro ⟨⟨Hps, Hrs⟩, ⟨Hpr, Hrr⟩, ⟨Hts, Htr⟩, Hc⟩
  isplitl [Hps Hrs Hts Htr]
  · isplitl [Hts]; · iexact Hts
    isplitl [Hrs]; · iexact Hrs
    isplitl [Htr]; · iexact Htr
    iexact Hps
  isplitl [Hrr]; · iexact Hrr
  isplitl [Hpr]; · iexact Hpr
  iexact Hc

/-- A device's share at the launch, its cells opened, is what its body takes. -/
theorem open_all : iprop(invs X κ ∗ (bigSep Finset.univ fun k : ScIx => openTok ER ((c : Thread nD τ), osem k)) ∗ Pipeline.ownSems0 osem c
      ∗ (toksD false c ∗ credsD false c) ∗ (toksD true c ∗ credsD true c))
    ⊢ (|={Set.univ}=> iprop(deal false c ∗ deal true c ∗ idle false c ∗ idle true c) : sProp 𝕄) := by
  have h0 := open_cells X κ c
  rw [all_cells (fun g => iprop(atPos ER g 0 ∅ 0 ∗ reached ER g 0)) c] at h0
  iintro ⟨HI, Ho, Hv, ⟨Ht1, Hc1⟩, Ht2, Hc2⟩
  imod h0 $$ [HI Ho Hv] with ⟨⟨⟨Hs1, Hsi1, -⟩, Hr1, Hri1, -⟩, ⟨Hs2, Hsi2, -⟩, Hr2, Hri2, -⟩
  · isplitl [HI]; · iexact HI
    isplitl [Ho] <;> iassumption
  imodintro
  isplitl [Ht1 Hc1 Hs1 Hr1]
  · iapply (deal_intro c false)
    isplitl [Hs1]; · iexact Hs1
    isplitl [Hr1]; · iexact Hr1
    isplitl [Ht1] <;> iassumption
  isplitl [Ht2 Hc2 Hs2 Hr2]
  · iapply (deal_intro c true)
    isplitl [Hs2]; · iexact Hs2
    isplitl [Hr2]; · iexact Hr2
    isplitl [Ht2] <;> iassumption
  isplitl [Hsi1 Hri1]
  · unfold idle; isplitl [Hsi1]; · iexact Hsi1
    iexact Hri1
  · unfold idle; isplitl [Hsi2]; · iexact Hsi2
    iexact Hri2

/-- A cell that is past its rounds is closed, its counter at zero. -/
theorem close_cell (g : GSem nD τ sig) {R : ℕ} (hR : ∀ r, R ≤ r → (rd (F := F) X).duties g r = ∅) :
    iprop(cellInv ER (rd X) (κ g) g ∗ atPos ER g R ∅ 0) ⊢ (|={Set.univ}=> semVal g 0 : sProp 𝕄) :=
  Rounds.cell_close ER (rd X) (Set.mem_univ (κ g)) (fun h => h) (R := R) hR

theorem inv_scC (d b : Bool) {n : ℕ} (hn : n < 32) : invs (F := F) X κ ⊢ cellInv ER (rd X) (κ (scC d b n c)) (scC d b n c) := by
  have h := inv_sc X κ c (d, b, ⟨n, hn⟩)
  rwa [scC_osem] at h

/-- All the cells of a direction are closed. -/
theorem close_dir (d b : Bool) : iprop(invs X κ ∗ fam d 0 (fun n => atPos ER (scC d b n c) 1 ∅ 0) ∗ atPos ER (scC d b (idleN d) c) 0 ∅ 0)
    ⊢ (|={Set.univ}=> iprop(fam d 0 (fun n => semVal (scC d b n c) 0) ∗ semVal (scC d b (idleN d) c) 0) : sProp 𝕄) := by
  have hid : ∀ r, 0 ≤ r → (rd (F := F) X).duties (scC d b (idleN d) c) r = ∅ := fun r _ => by
    cases b
    · exact duties_send_idle (d := d) X c (idle_lt d) (idle_not_used d) r
    · exact duties_recv_idle (d := d) X c (idle_lt d) (idle_not_used d) r
  have h1 : ∀ n, n < 32 → iprop(invs X κ ∗ atPos ER (scC d b n c) 1 ∅ 0) ⊢ (|={Set.univ}=> semVal (scC d b n c) 0 : sProp 𝕄) := fun n hn => by
    iintro ⟨#HI, Ha⟩
    iapply (close_cell X κ (scC d b n c) (R := 1) (duties_later X _))
    isplitr; · iapply (inv_scC X κ c d b hn); iexact HI
    iexact Ha
  unfold fam
  iintro ⟨#HI, ⟨Hf, Hl⟩, Hi⟩
  imod (close_cell X κ (scC d b (idleN d) c) (R := 0) hid) $$ [Hi] with Hi
  · isplitr; · iapply (inv_scC X κ c d b (idle_lt d)); iexact HI
    iexact Hi
  imod (h1 (lastN d) (used_lt (d := d) (.inr rfl))) $$ [Hl] with Hl
  · isplitr; · iexact HI
    iexact Hl
  have h2 : iprop(invs X κ ∗ bigSep (Finset.Ico 0 30) (fun n => atPos ER (scC d b n c) 1 ∅ 0)) ⊢ (|={Set.univ}=> bigSep (Finset.Ico 0 30) (fun n => semVal (scC d b n c) 0) : sProp 𝕄) := by
    refine BI.Entails.trans ?_ (bigSep_fupd _ _)
    exact bigSep_with_persistent fun n hn => h1 n (by have := (Finset.mem_Ico.1 hn).2; omega)
  imod h2 $$ [Hf] with Hf
  · isplitr; · iexact HI
    iexact Hf
  imodintro
  isplitr [Hi]
  · isplitl [Hf] <;> iassumption
  iexact Hi

/-- Everything is closed: the transfers' counters and the handshake's are zero. -/
theorem close_all : iprop(invs X κ ∗ fam false 0 (over c false) ∗ fam true 0 (over c true) ∗ atPos ER (barC c) 1 ∅ 0 ∗ idle false c ∗ idle true c)
    ⊢ (|={Set.univ}=> iprop(Pipeline.ownSems0 osem c ∗ semVal (barC c) 0) : sProp 𝕄) := by
  have e : ∀ d, (fam d 0 (over c d) : sProp 𝕄) = iprop(fam d 0 (fun n => atPos ER (scC d false n c) 1 ∅ 0) ∗ fam d 0 (fun n => atPos ER (scC d true n c) 1 ∅ 0)) :=
    fun d => fam_sep d 0 _ _
  have hd : ∀ d, iprop(invs X κ ∗ fam d 0 (over c d) ∗ idle d c) ⊢ (|={Set.univ}=> iprop((fam d 0 (fun n => semVal (scC d false n c) 0) ∗ semVal (scC d false (idleN d) c) 0)
      ∗ (fam d 0 (fun n => semVal (scC d true n c) 0) ∗ semVal (scC d true (idleN d) c) 0)) : sProp 𝕄) := fun d => by
    rw [e d]
    unfold idle
    iintro ⟨#HI, ⟨Hs, Hr⟩, His, Hir⟩
    imod (close_dir X κ c d false) $$ [Hs His] with Hs
    · isplitr; · iexact HI
      isplitl [Hs]; · iexact Hs
      iexact His
    imod (close_dir X κ c d true) $$ [Hr Hir] with Hr
    · isplitr; · iexact HI
      isplitl [Hr]; · iexact Hr
      iexact Hir
    imodintro
    isplitl [Hs] <;> iassumption
  unfold Pipeline.ownSems0
  rw [all_cells (fun g => semVal g 0) c]
  iintro ⟨#HI, H1, H2, Hb, Hi1, Hi2⟩
  imod (hd false) $$ [H1 Hi1] with H1
  · isplitr; · iexact HI
    isplitl [H1] <;> iassumption
  imod (hd true) $$ [H2 Hi2] with H2
  · isplitr; · iexact HI
    isplitl [H2] <;> iassumption
  imod (close_cell X κ (barC c) (R := 1) (duties_later X _)) $$ [Hb] with Hb
  · isplitr; · iapply (inv_bar X κ c); iexact HI
    iexact Hb
  imodintro
  isplitr [Hb]
  · isplitl [H1]; · iexact H1
    iexact H2
  iexact Hb

end Ends

end Cert.KernelIdeal.Ring
-- ==== Proof.Region.lean ====
module
/- The kernel as one region of the program: what its windows hold before and after, its obligation to
   the pipeline that stages them, and its entry and exit. -/
public import proofs.«01_k».proof.Proof.Ends
public import Idealize.ShloMosaic.Lib.Pipeline.RegionTalk

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The arguments and the result -/

/-- The devices' blocks of the first operand, -/
abbrev Xs (c : Dev nD) : S128x4096.Idx → Elt F .fp8e4m3 := m ((c : Dev nD), Proc.devRef .tc main_arg0)
/-- a device's second operand, -/
abbrev w8 (c : Dev nD) : S4096x64.Idx → Elt F .fp8e5m2 := m ((c : Dev nD), Proc.devRef .tc main_arg1)
/-- and the two scales. -/
abbrev s2 (c : Dev nD) : S1.Idx → Elt F .f32 := m ((c : Dev nD), Proc.devRef .tc main_arg2)
abbrev s3 (c : Dev nD) : S1.Idx → Elt F .f32 := m ((c : Dev nD), Proc.devRef .tc main_arg3)

/-- What the kernel leaves on a device. -/
def res (c : Dev nD) : S4096x64.Idx → Elt F .f32 :=
  G (Xs m) (k0_pay3 (w8 m c)) (k0_pay2 (s2 m c (ix1 0)) (s3 m c (ix1 0))) c

/-- The buffers after the kernel. -/
def V₂ (c : Dev nD) : Valuation τ sig (Elt F) := Function.update (V₁ m c) (Proc.devRef .tc main_v16) (res m c)

theorem V₂_res (c : Dev nD) : V₂ m c (Proc.devRef .tc main_v16) = res m c := Function.update_self _ _ _
theorem V₂_ne (c : Dev nD) {b : Ref sig .tc} (h : b ≠ main_v16) : V₂ m c (Proc.devRef .tc b) = V₁ m c (Proc.devRef .tc b) :=
  Function.update_of_ne (fun h' => h (Proc.devRef_injective _ h')) _ _

/-! ## What passes through the launch -/

/-- What a device keeps from the launch: all invariants, its place in the handshake, the right to open its
    cells, the rights to signal its neighbours, and the credits for what they will signal. -/
def Tk (c : Dev nD) : sProp 𝕄 :=
  iprop((∃ κ, invs (Xs m) κ) ∗ (bigSep Finset.univ fun k : ScIx => openTok ER ((c : Thread nD τ), osem k)) ∗ barDeal c
    ∗ (toksD false c ∗ credsD false c) ∗ (toksD true c ∗ credsD true c))

/-- What enters the body. -/
def Xk (c : Dev nD) : sProp 𝕄 :=
  iprop(∃ κ, invs (Xs m) κ ∗ levAts L lv ∗ deal false c ∗ deal true c ∗ barDeal c ∗ idle false c ∗ idle true c)

theorem enter (c : Dev nD) : iprop(Tk m c ∗ Pipeline.ownSems0 osem c ∗ levAts L lv) ⊢ (|={Set.univ}=> Xk m c : sProp 𝕄) := by
  unfold Tk Xk
  iintro ⟨⟨⟨%κ, #HI⟩, Ho, Hb, H1, H2⟩, Hv, #HL⟩
  imod (open_all (Xs m) κ c) $$ [Ho Hv H1 H2] with ⟨H1, H2, H3, H4⟩
  · isplitr; · iexact HI
    isplitl [Ho]; · iexact Ho
    isplitl [Hv]; · iexact Hv
    isplitl [H1] <;> iassumption
  imodintro
  iexists κ
  isplitr; · iexact HI
  isplitr; · iexact HL
  isplitl [H1]; · iexact H1
  isplitl [H2]; · iexact H2
  isplitl [Hb]; · iexact Hb
  isplitl [H3] <;> iassumption

/-! ## The region's data -/

/-- What each window holds at the end of the body. -/
def left (c : Dev nD) (w : Fin cfg0.W) : (cfg0.win w).block.Idx → Elt F (cfg0.win w).elt := match w with
  | ⟨0, _⟩ => Xs m c
  | ⟨1, _⟩ => w8 m c
  | ⟨2, _⟩ => s2 m c
  | ⟨3, _⟩ => s3 m c
  | ⟨4, _⟩ => nbT (F := F) c
  | ⟨5, _⟩ => tabV (F := F) false c
  | ⟨6, _⟩ => tabV (F := F) true c
  | ⟨7, _⟩ => res m c
  | ⟨_ + 8, h⟩ => absurd h (Nat.not_lt.2 (Nat.le_add_left _ _))

/-- Before the body the device owes its signals and has what enters; after it nothing is owed and every
    counter is zero. -/
def dat (c : Dev nD) : Dat τ (Elt F) Unit ℕ UU ℕ cfg0 c where
  A w := V₁ m c (Proc.devRef .tc (Pipeline.arrRef spec0 w))
  after w _ := left m c w
  Φ t := if t.val = 0 then iprop(Xk m c ∗ scr c ∗ ∃ r, prngReg c r)
    else iprop((Pipeline.ownSems0 osem c ∗ semVal (barC c) 0) ∗ scr c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem Φ_first (c : Dev nD) : (dat m c).Φ t0_0.castSucc = iprop(Xk m c ∗ scr c ∗ ∃ r, prngReg c r) := rfl
theorem Φ_last (c : Dev nD) : (dat m c).Φ t0_0.succ = iprop((Pipeline.ownSems0 osem c ∗ semVal (barC c) 0) ∗ scr c ∗ ∃ r, prngReg c r) := rfl
theorem owed_first (c : Dev nD) : (dat m c).owed t0_0.castSucc = O₀ c := rfl
theorem owed_last (c : Dev nD) : (dat m c).owed t0_0.succ = 0 := rfl

theorem owesAt_intro (c : Dev nD) (Wt : Waits sig Unit) :
    (owes (c : Thread nD τ) 0 Wt : sProp 𝕄) ⊢ (dat m c).owesAt () t0_0.succ := by
  unfold Dat.owesAt Pipeline.owesWithin Dat.bound
  rw [owed_last]
  iintro HO; iexists Wt; isplitr
  · ipureintro; exact fun _ _ => Or.inl trivial
  iexact HO
theorem owesAt_elim (c : Dev nD) : ((dat m c).owesAt () t0_0.castSucc : sProp 𝕄) ⊢ iprop(∃ Wt, owes (c : Thread nD τ) (O₀ c) Wt) := by
  unfold Dat.owesAt Pipeline.owesWithin
  rw [owed_first]
  iintro ⟨%Wt, -, HO⟩; iexists Wt; iexact HO

/-! ## The windows' contents -/

section Windows
variable (c : Dev nD)

/-! A window is its whole array, so what is staged before the body is the array's contents. -/

theorem blk0 (f : (main_arg0 : Ref sig .tc).ty.Contents (Elt F)) : (win0_0.blk t0_0).view.read (Elt F) f = f :=
  Memref.read_access_unit_zero (Elt F) main_arg0 (funext fun a => Nat.zero_mul _) _ f
theorem before0 (d) : (dat m c).before (0 : Fin 8) t0_0 d = Xs m c := by
  have h : (dat m c).before (0 : Fin 8) t0_0 d = (win0_0.blk t0_0).view.read (Elt F) ((dat m c).A (0 : Fin 8)) := by
    unfold Dat.before; rw [if_pos (fetch0_0 _)]; rfl
  exact (h.trans (blk0 ((dat m c).A (0 : Fin 8)))).trans (V₁_arg0 m c)
theorem blk1 (f : (main_arg1 : Ref sig .tc).ty.Contents (Elt F)) : (win0_1.blk t0_0).view.read (Elt F) f = f :=
  Memref.read_access_unit_zero (Elt F) main_arg1 (funext fun a => Nat.zero_mul _) _ f
theorem before1 (d) : (dat m c).before (1 : Fin 8) t0_0 d = w8 m c := by
  have h : (dat m c).before (1 : Fin 8) t0_0 d = (win0_1.blk t0_0).view.read (Elt F) ((dat m c).A (1 : Fin 8)) := by
    unfold Dat.before; rw [if_pos (fetch0_1 _)]; rfl
  exact (h.trans (blk1 ((dat m c).A (1 : Fin 8)))).trans (V₁_arg1 m c)
theorem blk2 (f : (main_arg2 : Ref sig .tc).ty.Contents (Elt F)) : (win0_2.blk t0_0).view.read (Elt F) f = f :=
  Memref.read_access_unit_zero (Elt F) main_arg2 (funext fun a => Nat.zero_mul _) _ f
theorem before2 (d) : (dat m c).before (2 : Fin 8) t0_0 d = s2 m c := by
  have h : (dat m c).before (2 : Fin 8) t0_0 d = (win0_2.blk t0_0).view.read (Elt F) ((dat m c).A (2 : Fin 8)) := by
    unfold Dat.before; rw [if_pos (fetch0_2 _)]; rfl
  exact (h.trans (blk2 ((dat m c).A (2 : Fin 8)))).trans (V₁_arg2 m c)
theorem blk3 (f : (main_arg3 : Ref sig .tc).ty.Contents (Elt F)) : (win0_3.blk t0_0).view.read (Elt F) f = f :=
  Memref.read_access_unit_zero (Elt F) main_arg3 (funext fun a => Nat.zero_mul _) _ f
theorem before3 (d) : (dat m c).before (3 : Fin 8) t0_0 d = s3 m c := by
  have h : (dat m c).before (3 : Fin 8) t0_0 d = (win0_3.blk t0_0).view.read (Elt F) ((dat m c).A (3 : Fin 8)) := by
    unfold Dat.before; rw [if_pos (fetch0_3 _)]; rfl
  exact (h.trans (blk3 ((dat m c).A (3 : Fin 8)))).trans (V₁_arg3 m c)
theorem blk4 (f : (main_v13 : Ref sig .tc).ty.Contents (Elt F)) : (win0_4.blk t0_0).view.read (Elt F) f = f :=
  Memref.read_access_unit_zero (Elt F) main_v13 (funext fun a => Nat.zero_mul _) _ f
theorem before4 (d) : (dat m c).before (4 : Fin 8) t0_0 d = nbT (F := F) c := by
  have h : (dat m c).before (4 : Fin 8) t0_0 d = (win0_4.blk t0_0).view.read (Elt F) ((dat m c).A (4 : Fin 8)) := by
    unfold Dat.before; rw [if_pos (fetch0_4 _)]; rfl
  exact (h.trans (blk4 ((dat m c).A (4 : Fin 8)))).trans (V₁_v13 m c)
theorem blk5 (f : (main_v14 : Ref sig .tc).ty.Contents (Elt F)) : (win0_5.blk t0_0).view.read (Elt F) f = f :=
  Memref.read_access_unit_zero (Elt F) main_v14 (funext fun a => Nat.zero_mul _) _ f
theorem before5 (d) : (dat m c).before (5 : Fin 8) t0_0 d = tabV (F := F) false c := by
  have h : (dat m c).before (5 : Fin 8) t0_0 d = (win0_5.blk t0_0).view.read (Elt F) ((dat m c).A (5 : Fin 8)) := by
    unfold Dat.before; rw [if_pos (fetch0_5 _)]; rfl
  exact (h.trans (blk5 ((dat m c).A (5 : Fin 8)))).trans (V₁_v14 m c)
theorem blk6 (f : (main_v15 : Ref sig .tc).ty.Contents (Elt F)) : (win0_6.blk t0_0).view.read (Elt F) f = f :=
  Memref.read_access_unit_zero (Elt F) main_v15 (funext fun a => Nat.zero_mul _) _ f
theorem before6 (d) : (dat m c).before (6 : Fin 8) t0_0 d = tabV (F := F) true c := by
  have h : (dat m c).before (6 : Fin 8) t0_0 d = (win0_6.blk t0_0).view.read (Elt F) ((dat m c).A (6 : Fin 8)) := by
    unfold Dat.before; rw [if_pos (fetch0_6 _)]; rfl
  exact (h.trans (blk6 ((dat m c).A (6 : Fin 8)))).trans (V₁_v15 m c)

/-- A window's array at the end: an argument as it was, -/
theorem arr_in (w : Fin cfg0.W) (h : (cfg0.win w).isOut = false) (t : ℕ) : (dat m c).arrAt w t = V₁ m c (Proc.devRef .tc (Pipeline.arrRef spec0 w)) :=
  (dat m c).arrAt_in w h t
/-- the result what the body left. -/
theorem arr_out : (dat m c).arrAt (7 : Fin 8) cfg0.N = res m c := by
  rw [show cfg0.N = t0_0.val + 1 from N_0, (dat m c).arrAt_succ (7 : Fin 8) t0_0, if_pos (flush0_7 _)]
  exact Memref.write_access_unit_zero_univ (Elt F) main_v16 (funext fun a => Nat.zero_mul _) _ _ _

theorem arr_last : ∀ w : Fin cfg0.W, (dat m c).arrAt w cfg0.N = V₂ m c (Proc.devRef .tc (Pipeline.arrRef spec0 w))
  | ⟨0, _⟩ => (arr_in m c (0 : Fin 8) rfl _).trans (V₂_ne m c (by decide : main_arg0 ≠ main_v16)).symm
  | ⟨1, _⟩ => (arr_in m c (1 : Fin 8) rfl _).trans (V₂_ne m c (by decide : main_arg1 ≠ main_v16)).symm
  | ⟨2, _⟩ => (arr_in m c (2 : Fin 8) rfl _).trans (V₂_ne m c (by decide : main_arg2 ≠ main_v16)).symm
  | ⟨3, _⟩ => (arr_in m c (3 : Fin 8) rfl _).trans (V₂_ne m c (by decide : main_arg3 ≠ main_v16)).symm
  | ⟨4, _⟩ => (arr_in m c (4 : Fin 8) rfl _).trans (V₂_ne m c (by decide : main_v13 ≠ main_v16)).symm
  | ⟨5, _⟩ => (arr_in m c (5 : Fin 8) rfl _).trans (V₂_ne m c (by decide : main_v14 ≠ main_v16)).symm
  | ⟨6, _⟩ => (arr_in m c (6 : Fin 8) rfl _).trans (V₂_ne m c (by decide : main_v15 ≠ main_v16)).symm
  | ⟨7, _⟩ => (arr_out m c).trans (V₂_res m c).symm
  | ⟨_ + 8, h⟩ => absurd h (Nat.not_lt.2 (Nat.le_add_left _ _))

/-- A whole buffer owned at contents is its points at them. -/
theorem owns_buf (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

theorem stg_in {D : Type} (b : Ref sig .tc) (Y : b.ty.Contents (Elt F)) (B : D → b.ty.Contents (Elt F)) (h : ∀ d, B d = Y) :
    iprop(∃ d, owns (Ix := Unit) (Name := ℕ) (U := UU) (Lvl := ℕ) (c : Thread nD τ) (Memref.whole b) fullShare (B d)) ⊢ (((c : Thread nD τ).loc b) ↦{fullShare} Y : sProp 𝕄) := by
  iintro ⟨%d, H⟩
  ihave H := (Entails.of_eq (owns_buf c b (B d))) $$ H
  icases H with ⟨%f, %hf, H⟩
  rw [h d] at hf
  subst hf
  iexact H
theorem stg_out (b : Ref sig .tc) (Y : b.ty.Contents (Elt F)) :
    (((c : Thread nD τ).loc b) ↦{fullShare} Y : sProp 𝕄) ⊢ owns (Ix := Unit) (Name := ℕ) (U := UU) (Lvl := ℕ) (c : Thread nD τ) (Memref.whole b) fullShare Y := by
  rw [owns_buf]
  iintro H
  iexists Y
  isplitr; · ipureintro; rfl
  iexact H

/-- The body's run between what is staged before and after it. -/
theorem run_body (p : P F) (hp : p = body) : iprop((Xk m c ∗ scr c ∗ ∃ r, prngReg c r) ∗ (dat m c).owesAt () t0_0.castSucc ∗ (∃ d, owns (c : Thread nD τ) (Memref.whole cc0_stg0_0) fullShare ((dat m c).before (0 : Fin 8) t0_0 d)) ∗ (∃ d, owns (c : Thread nD τ) (Memref.whole cc0_stg1_0) fullShare ((dat m c).before (1 : Fin 8) t0_0 d)) ∗ (∃ d, owns (c : Thread nD τ) (Memref.whole cc0_stg2_0) fullShare ((dat m c).before (2 : Fin 8) t0_0 d)) ∗ (∃ d, owns (c : Thread nD τ) (Memref.whole cc0_stg3_0) fullShare ((dat m c).before (3 : Fin 8) t0_0 d)) ∗ (∃ d, owns (c : Thread nD τ) (Memref.whole cc0_stg4_0) fullShare ((dat m c).before (4 : Fin 8) t0_0 d)) ∗ (∃ d, owns (c : Thread nD τ) (Memref.whole cc0_stg5_0) fullShare ((dat m c).before (5 : Fin 8) t0_0 d)) ∗ (∃ d, owns (c : Thread nD τ) (Memref.whole cc0_stg6_0) fullShare ((dat m c).before (6 : Fin 8) t0_0 d)) ∗ (∃ d, owns (c : Thread nD τ) (Memref.whole cc0_stg7_0) fullShare ((dat m c).before (7 : Fin 8) t0_0 d)))
    ⊢ W c p (fun _ => iprop(((Pipeline.ownSems0 osem c ∗ semVal (barC c) 0) ∗ scr c ∗ ∃ r, prngReg c r) ∗ (dat m c).owesAt () t0_0.succ ∗ owns (c : Thread nD τ) (Memref.whole cc0_stg0_0) fullShare (left m c (0 : Fin 8)) ∗ owns (c : Thread nD τ) (Memref.whole cc0_stg1_0) fullShare (left m c (1 : Fin 8)) ∗ owns (c : Thread nD τ) (Memref.whole cc0_stg2_0) fullShare (left m c (2 : Fin 8)) ∗ owns (c : Thread nD τ) (Memref.whole cc0_stg3_0) fullShare (left m c (3 : Fin 8)) ∗ owns (c : Thread nD τ) (Memref.whole cc0_stg4_0) fullShare (left m c (4 : Fin 8)) ∗ owns (c : Thread nD τ) (Memref.whole cc0_stg5_0) fullShare (left m c (5 : Fin 8)) ∗ owns (c : Thread nD τ) (Memref.whole cc0_stg6_0) fullShare (left m c (6 : Fin 8)) ∗ owns (c : Thread nD τ) (Memref.whole cc0_stg7_0) fullShare (left m c (7 : Fin 8)))) := by
  subst hp
  unfold Xk
  iintro ⟨⟨⟨%κ, #HI, #HL, HdF, HdT, HdB, HiF, HiT⟩, Hscr, Hreg⟩, HO, H0, H1, H2, H3, H4, H5, H6, ⟨%d7, H7⟩⟩
  ihave H0 := (stg_in c cc0_stg0_0 _ _ (before0 m c)) $$ H0
  ihave H1 := (stg_in c cc0_stg1_0 _ _ (before1 m c)) $$ H1
  ihave H2 := (stg_in c cc0_stg2_0 _ _ (before2 m c)) $$ H2
  ihave H3 := (stg_in c cc0_stg3_0 _ _ (before3 m c)) $$ H3
  ihave H4 := (stg_in c cc0_stg4_0 _ _ (before4 m c)) $$ H4
  ihave H5 := (stg_in c cc0_stg5_0 _ _ (before5 m c)) $$ H5
  ihave H6 := (stg_in c cc0_stg6_0 _ _ (before6 m c)) $$ H6
  ihave H7 := (Entails.of_eq (owns_buf c cc0_stg7_0 _)) $$ H7
  icases H7 with ⟨%f7, -, H7⟩
  ihave HO := (owesAt_elim m c) $$ HO
  iapply wp_fupd
  iapply (body_step (Xs m) κ c (w8 m c) (s2 m c) (s3 m c) _) $$ [HdF HdT HdB Hscr HO H0 H1 H2 H3 H4 H5 H6 H7]
  · isplitr; · iexact HI
    isplitr; · iexact HL
    isplitl [H0 H1 H2 H3 H4 H5 H6]
    · unfold ins tabP
      isplitl [H0]; · iexact H0
      isplitl [H1]; · iexact H1
      isplitl [H2]; · iexact H2
      isplitl [H3]; · iexact H3
      isplitl [H4]; · iexact H4
      isplitl [H5]; · iexact H5
      iexact H6
    isplitl [Hscr]; · iexact Hscr
    isplitl [H7]; · iexists f7; iexact H7
    isplitl [HdF]; · iexact HdF
    isplitl [HdT]; · iexact HdT
    isplitl [HdB]; · iexact HdB
    iexact HO
  unfold ins tabP
  iintro ⟨⟨H0, H1, H2, H3, H4, H5, H6⟩, Hscr, H7, HoF, HoT, Hat, ⟨%Wt, HO⟩⟩
  imod (close_all (Xs m) κ c) $$ [HoF HoT Hat HiF HiT] with Hz
  · isplitr; · iexact HI
    isplitl [HoF]; · iexact HoF
    isplitl [HoT]; · iexact HoT
    isplitl [Hat]; · iexact Hat
    isplitl [HiF] <;> iassumption
  imodintro
  isplitl [Hz Hscr Hreg]
  · isplitl [Hz]; · iexact Hz
    isplitl [Hscr] <;> iassumption
  isplitl [HO]; · iapply (owesAt_intro m c Wt); iexact HO
  isplitl [H0]; · iapply (stg_out c cc0_stg0_0 _); iexact H0
  isplitl [H1]; · iapply (stg_out c cc0_stg1_0 _); iexact H1
  isplitl [H2]; · iapply (stg_out c cc0_stg2_0 _); iexact H2
  isplitl [H3]; · iapply (stg_out c cc0_stg3_0 _); iexact H3
  isplitl [H4]; · iapply (stg_out c cc0_stg4_0 _); iexact H4
  isplitl [H5]; · iapply (stg_out c cc0_stg5_0 _); iexact H5
  isplitl [H6]; · iapply (stg_out c cc0_stg6_0 _); iexact H6
  iapply (stg_out c cc0_stg7_0 _); iexact H7

/-- The program the pipeline calls is the body. -/
theorem call_eq : defs₀ (F := F) .tc cfg0.body (cfg0.bodyArgs t0_0 (cfg0.slots t0_0)) = body := by
  rw [← body_eq]
  rfl

/-- A run with a stronger result is a run with a weaker one. -/
theorem W_mono (p : P F) {Q Q' : PUnit → sProp 𝕄} (h : ∀ a, Q a ⊢ Q' a) : W c p Q ⊢ W c p Q' :=
  Idealize.SL.Sem.wp_mono _ _ _ h

/-- The body meets what the pipeline asks of it. -/
theorem obligation : BodyObligation (dat m c) defs₀ 𝒱₀ () Set.univ := fun t => by
  obtain rfl := fin_N0 t
  have hi : ∀ w, cfg0.idle w (cfg0.grid.coords t0_0) = false := fun w => rfl
  simp only [hi]
  rw [bigSep_W0, bigSep_W0]
  rw [Φ_first, Φ_last]
  have hp := call_eq (F := F)
  generalize defs₀ (F := F) .tc cfg0.body (cfg0.bodyArgs t0_0 (cfg0.slots t0_0)) = p at hp ⊢
  refine BI.Entails.trans ?a (BI.Entails.trans (run_body m c p hp) ?b)
  case a =>
    refine BI.sep_mono (BI.Entails.refl _) (BI.sep_mono (BI.Entails.refl _) ?_)
    exact BI.Entails.refl _
  case b =>
    refine W_mono c p (fun _ => ?_)
    refine BI.sep_mono (BI.Entails.refl _) (BI.sep_mono (BI.Entails.refl _) ?_)
    exact BI.Entails.refl _

end Windows

end Cert.KernelIdeal.Ring
-- ==== Proof.Record.lean ====
module
/- The kernel's region as the launch runs it: entered with what a device keeps from the launch, left with
   the result written and the handshake's counter at zero. -/
public import proofs.«01_k».proof.Proof.Region

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- The windows' arrays, -/
abbrev arrs : Finset (DevRef τ sig) := Pipeline.arrRefs (τ := τ) spec0
/-- and the other buffers of the host. -/
abbrev others : Finset (DevRef τ sig) := Pipeline.ucRefs τ sig \ arrs

theorem arrs_sub : arrs ⊆ Pipeline.ucRefs τ sig := Pipeline.arrRefs_sub_ucRefs spec0 winFacts0.arr_unscoped

theorem res_arr : Proc.devRef (τ := τ) .tc main_v16 ∈ arrs :=
  Finset.mem_map_of_mem _ (Finset.mem_image.mpr ⟨(7 : Fin 8), Finset.mem_univ _, rfl⟩)

/-- The kernel leaves the host's other buffers as they are. -/
theorem others_kept (c : Dev nD) : ∀ b ∈ others \ (∅ : Finset (DevRef τ sig)), V₂ m c b = V₁ m c b := fun b hb => by
  rw [Finset.sdiff_empty, Finset.mem_sdiff] at hb
  exact Function.update_of_ne (fun h : b = Proc.devRef .tc main_v16 => hb.2 (by rw [h]; exact res_arr)) _ _

/-- The transfers' semaphores are the kernel's own. -/
theorem own_sems : Pipeline.OwnSemFacts spec0 osem where
  isScoped k := by
    obtain ⟨d, b, n⟩ := k
    revert n; cases d <;> cases b <;> decide +kernel
  inj := osem_inj
  disj k w s := by
    obtain ⟨d, b, n⟩ := k
    rw [osem_val]
    intro h
    have h' : 8 + 64 * d.toNat + 32 * b.toNat + n.val = ((spec0 w).sem s).val := congrArg Fin.val (SemLoc.dma.inj h)
    have h8 : ∀ (w : Fin 8) (s : Fin (spec0 w).nbuf), ((spec0 w).sem s).val < 8 := by decide
    have := h8 w s
    omega

theorem reg_kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-! ## Levels -/

/-- What is owed at the launch lies past the staging. -/
theorem owed_level {c : Dev nD} {g : GSem nD τ sig} {u : Unit} (h : 0 < O₀ c g u) : u ∈ L g ∧ 0 < lv g u := by
  have hL : ∀ (e : Dev nD) (sm : SemLoc sig), u ∈ L ((e : Thread nD τ), sm) := fun e sm => by
    rw [L_tc]; exact Finset.mem_singleton_self _
  have hs : ∀ d, 0 < Od d c 0 g u → u ∈ L g ∧ 0 < lv g u := fun d hp => by
    obtain ⟨n, -, hn, rfl⟩ := Od_pos (Nat.zero_le _) hp
    exact ⟨hL _ _, by rw [lv_recv _ hn]; omega⟩
  have hb : ∀ e, 0 < (tallyAt (barC e) () 1 : CellTallies nD τ sig Unit) g u → u ∈ L g ∧ 0 < lv g u := fun e hp => by
    obtain rfl := tallyAt_pos hp
    exact ⟨hL _ _, by rw [lv_bar]; exact Nat.one_pos⟩
  unfold O₀ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact hs _ h
      · exact hs _ h
    · exact hb _ h
  · exact hb _ h

theorem stage_level (c : Dev nD) (w : Fin 8) (s : Fin (spec0 w).nbuf) : lv ((c : Thread nD τ), .dma ((spec0 w).sem s)) () ≤ 0 := by
  have h8 : ∀ (w : Fin 8) (s : Fin (spec0 w).nbuf), ((spec0 w).sem s).val < 8 := by decide
  dsimp only [lv, kindOf]
  rw [if_pos (h8 w s)]

theorem owed_first' (c : Dev nD) : (pdats (F := F) m 0 c).owed 0 = O₀ c := rfl
theorem owed_last' (c : Dev nD) : (pdats (F := F) m 0 c).owed (Fin.last _) = 0 := rfl

theorem owed_cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact owed_level h
  · exact absurd h (Nat.lt_irrefl 0)

/-! ## Entry and exit -/

theorem held_none (c : Dev nD) (V : Valuation τ sig (Elt F)) : (StableHlo.held (c.tc : Thread nD τ) ∅ V : sProp 𝕄) = BI.emp := by
  unfold StableHlo.held; exact bigSep_empty

theorem rest_scr (c : Dev nD) : (Pipeline.scopedRest (Ix := Unit) (Name := ℕ) (U := UU) (Lvl := ℕ) (Val := Elt F) (Pipeline.pin (pcfgs (F := F)) adm 0).spec c : sProp 𝕄) = scr c :=
  scopedRest0_eq c

theorem entry (c : Dev nD) : iprop(Pipeline.scopedRest (Pipeline.pin (pcfgs (F := F)) adm 0).spec c ∗ (∃ r, prngReg c r)
      ∗ StableHlo.held (c.tc : Thread nD τ) ∅ (V₁ m c) ∗ Xk m c)
    ⊢ (pdats m 0 c).Φ 0 := by
  rw [show (pdats m 0 c).Φ 0 = iprop(Xk m c ∗ scr c ∗ ∃ r, prngReg c r) from rfl, rest_scr, held_none]
  iintro ⟨Hs, Hp, -, HX⟩
  isplitl [HX]; · iexact HX
  isplitl [Hs] <;> iassumption

/-- What a device has left of the protocol at the end. -/
abbrev Yk (c : Dev nD) : sProp 𝕄 := semVal (barC c) 0

theorem exit (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = iprop((Pipeline.ownSems0 osem c ∗ semVal (barC c) 0) ∗ scr c ∗ ∃ r, prngReg c r) from rfl, rest_scr, held_none]
  iintro ⟨⟨Ho, Hb⟩, Hs, Hp⟩
  isplitl [Hs]; · iexact Hs
  isplitl [Hp]; · iexact Hp
  isplitr; · iempintro
  isplitl [Ho] <;> iassumption

theorem share_full (c : Dev nD) (w) : (pdats (F := F) m 0 c).share w = fullShare := by
  unfold Dat.share; split <;> rfl

set_option backward.isDefEq.respectTransparency.types false in
/-- The region. -/
def reg : Pipeline.RegionSeg (pcfgs (F := F)) adm (pdats m) () defs₀ 𝒱₀ L lv 0 :=
  Pipeline.RegionSeg.ofTalk (pcfgs (F := F)) adm (pdats m) () defs₀ 𝒱₀ L lv 0 osem own_sems
    ∅ others (Finset.empty_subset _) reg_kit rfl (fun c => (obligation m c).loose)
    (fun _ => 0) O₀ (fun c => (owed_first' m c).trans (zero_add _).symm) (owed_last' m) (fun _ => rfl) (share_full m)
    (V₁ m) (V₂ m) (others_kept m) (Tk m) Yk (Xk m) Yk (enter m) (entry m) (exit m)
    (fun c => by iintro H; imodintro; iexact H)
    (fun _ => 0)
    ⟨fun c w s => by rw [L_tc]; exact Finset.mem_singleton_self _, fun c w s => stage_level c w s, fun c t g i h => owed_cut m c t g i h⟩
    (fun _ => iprop(emp))
    (fun _ _ => rfl) (arr_last m)

/-- What rides beside the host's buffers up to the kernel. -/
def R (c : Dev nD) : sProp 𝕄 := iprop(Tk m c ∗ (∃ r, prngReg c r) ∗ ∃ Wt, owes (c : Thread nD τ) (O₀ c) Wt)

theorem reg_pre (c : Dev nD) : iprop(StableHlo.held (c : Thread nD τ) (Pipeline.ucRefs τ sig) (V₁ m c) ∗ R m c) ⊢ (reg m).pre c := by
  show _ ⊢ iprop(StableHlo.held (c.tc : Thread nD τ) arrs (V₁ m c) ∗ (∃ r, prngReg c r)
    ∗ (StableHlo.held (c.tc : Thread nD τ) others (V₁ m c) ∗ emp) ∗ Tk m c ∗ ∃ Wd, owes (c : Thread nD τ) (0 + O₀ c) Wd)
  rw [StableHlo.held_sub_split (c : Thread nD τ) arrs_sub (V₁ m c), zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : (reg m).post c
    ⊢ iprop((StableHlo.held (c : Thread nD τ) (Pipeline.ucRefs τ sig) (V₂ m c) ∗ semVal (barC c) 0)
      ∗ ∃ Wt, owes (c : Thread nD τ) (0 : CellTallies nD τ sig Unit) Wt) := by
  show iprop(StableHlo.held (c.tc : Thread nD τ) arrs (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  rw [StableHlo.held_sub_split (c : Thread nD τ) arrs_sub (V₂ m c)]
  iintro ⟨Ha, -, ⟨Hr, -⟩, Hb, HO⟩
  isplitr [HO]
  · isplitr [Hb]
    · isplitl [Ha] <;> iassumption
    iexact Hb
  iexact HO

end Cert.KernelIdeal.Ring
-- ==== Proof.Launch.lean ====
module
/- The launch: every cell gets its invariant, and each device is dealt the rights to pay its neighbours
   and the credits for what they owe it. -/
public import proofs.«01_k».proof.Proof.Record

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

/-! ## The credits -/

/-- The devices' dues of one direction give each device the credits for that direction's landings. -/
theorem credits (d : Bool) (c : Dev nD) : (Pipeline.launchCred (fun e => Od d e 0) c : sProp 𝕄) ⊢ credsD d c := by
  have h : ∀ n, (Pipeline.launchCred (fun e => tallyAt (recvC d n (nb d e)) () N) c : sProp 𝕄) ⊢ cred (tallyAt (recvC d n c) () N) := fun n =>
    Pipeline.launchCred_tallyAt (.dma (recvS d n)) (nb d) (nb (!d)) (nb_nb d) (nb_nb' d) () N c
  unfold Od credsD
  rw [Pipeline.launchCred_add, Pipeline.launchCred_sum]
  exact fam_mono d 0 (Φ := fun n => Pipeline.launchCred (fun e => tallyAt (recvC d n (nb d e)) () N) c) fun n _ => h n

theorem credits_bar (d : Bool) (c : Dev nD) :
    (Pipeline.launchCred (fun e => tallyAt (barC (nb d e)) () 1) c : sProp 𝕄) ⊢ cred (tallyAt (barC c) () 1) :=
  Pipeline.launchCred_tallyAt (.reg barS) (nb d) (nb (!d)) (nb_nb d) (nb_nb' d) () 1 c

/-- What the launch credits a device. -/
theorem credits_all (c : Dev nD) :
    (Pipeline.launchCred O₀ c : sProp 𝕄) ⊢ iprop(cred (tallyAt (barC c) () 2) ∗ credsD false c ∗ credsD true c) := by
  have e : (Pipeline.launchCred O₀ c : sProp 𝕄) = Pipeline.launchCred (fun e => Od false e 0 + Od true e 0
    + tallyAt (barC (nb false e)) () 1 + tallyAt (barC (nb true e)) () 1) c := rfl
  rw [e, Pipeline.launchCred_add, Pipeline.launchCred_add, Pipeline.launchCred_add]
  have e2 : (tallyAt (barC c) () 2 : CellTallies nD τ sig Unit) = tallyAt (barC c) () 1 + tallyAt (barC c) () 1 := (tallyAt_add (barC c) () 1 1).symm
  rw [e2]
  iintro ⟨⟨⟨H1, H2⟩, H3⟩, H4⟩
  ihave H1 := (credits false c) $$ H1
  ihave H2 := (credits true c) $$ H2
  ihave H3 := (credits_bar false c) $$ H3
  ihave H4 := (credits_bar true c) $$ H4
  isplitl [H3 H4]
  · iapply (cred_add _ _).2; isplitl [H3] <;> iassumption
  isplitl [H1] <;> iassumption

/-! ## The rights to pay -/

def barTok : Dev nD × Bool ↪ GSem nD τ sig × ℕ × Bool :=
  ⟨fun cb => (barC cb.1, 0, cb.2), fun _ _ h =>
    Prod.ext (congrArg (fun t : GSem nD τ sig × ℕ × Bool => t.1.1.1) h) (congrArg (fun t : GSem nD τ sig × ℕ × Bool => t.2.2) h)⟩
def scTok : Dev nD × ScIx ↪ GSem nD τ sig × ℕ × Bool :=
  ⟨fun ck => (((ck.1 : Thread nD τ), osem ck.2), 0, false), fun _ _ h =>
    scEmb.injective (congrArg (fun t : GSem nD τ sig × ℕ × Bool => t.1) h)⟩

theorem disjoint_toks : Disjoint ((Finset.univ : Finset (Dev nD × Bool)).map barTok) ((Finset.univ : Finset (Dev nD × ScIx)).map scTok) := by
  rw [Finset.disjoint_left]
  rintro x h₁ h₂
  obtain ⟨cb, -, rfl⟩ := Finset.mem_map.mp h₁
  obtain ⟨ck, -, h⟩ := Finset.mem_map.mp h₂
  exact osem_ne_bar ck.2 (congrArg (fun t : GSem nD τ sig × ℕ × Bool => t.1.2) h)

/-- One right for each payment of each cell. -/
def talkToks : Finset (GSem nD τ sig × ℕ × Bool) :=
  (Finset.univ : Finset (Dev nD × Bool)).map barTok ∪ (Finset.univ : Finset (Dev nD × ScIx)).map scTok

/-- The rights to pay a device's own cells. -/
def ownToks (c : Dev nD) : sProp 𝕄 :=
  iprop((dutyTok ER (barC c) 0 false ∗ dutyTok ER (barC c) 0 true)
    ∗ (fam false 0 (fun n => dutyTok ER (sendC false n c) 0 false) ∗ fam false 0 (fun n => dutyTok ER (recvC false n c) 0 false))
    ∗ (fam true 0 (fun n => dutyTok ER (sendC true n c) 0 false) ∗ fam true 0 (fun n => dutyTok ER (recvC true n c) 0 false)))

/-- The rights a device is dealt: to pay its own sends, and its neighbours' handshakes and landings. -/
def dealtToks (c : Dev nD) : sProp 𝕄 :=
  iprop((dutyTok ER (barC (nb true c)) 0 false ∗ dutyTok ER (barC (nb false c)) 0 true) ∗ toksD false c ∗ toksD true c)

theorem toks_own : bigSep talkToks (fun x => (dutyTok ER x.1 x.2.1 x.2.2 : sProp 𝕄)) ⊢ bigSep Finset.univ fun c : Dev nD => ownToks c := by
  have h : ∀ c : Dev nD, iprop((bigSep Finset.univ fun b : Bool => dutyTok ER (barC c) 0 b)
      ∗ bigSep Finset.univ fun k : ScIx => dutyTok ER ((c : Thread nD τ), osem k) 0 false) ⊢ (ownToks c : sProp 𝕄) := fun c => by
    rw [bigSep_two, all_cells (fun g => dutyTok ER g 0 false) c]
    unfold ownToks
    iintro ⟨Hb, ⟨⟨H1, -⟩, H2, -⟩, ⟨H3, -⟩, H4, -⟩
    isplitl [Hb]; · iexact Hb
    isplitl [H1 H2]
    · isplitl [H1] <;> iassumption
    isplitl [H3] <;> iassumption
  have e : bigSep talkToks (fun x => (dutyTok ER x.1 x.2.1 x.2.2 : sProp 𝕄))
      = bigSep Finset.univ fun c : Dev nD => iprop((bigSep Finset.univ fun b : Bool => dutyTok ER (barC c) 0 b)
      ∗ bigSep Finset.univ fun k : ScIx => dutyTok ER ((c : Thread nD τ), osem k) 0 false) := by
    unfold talkToks
    rw [BI.bigSep_union disjoint_toks, bigSep_map, bigSep_map, bigSep_univ_prod, bigSep_univ_prod, bigSep_sep']
    rfl
  rw [e]
  exact bigSep_mono fun c _ => h c

/-- The rights go round the ring. -/
theorem toks_around : (bigSep Finset.univ fun c : Dev nD => (ownToks c : sProp 𝕄)) ⊢ bigSep Finset.univ fun c : Dev nD => dealtToks c := by
  unfold ownToks dealtToks toksD
  rw [bigSep_sep', bigSep_sep', bigSep_sep', bigSep_sep', bigSep_sep', bigSep_sep', bigSep_sep', bigSep_sep', bigSep_sep', bigSep_sep',
    bigSep_univ_equiv (step true) (fun c : Dev nD => (dutyTok ER (barC c) 0 false : sProp 𝕄)),
    bigSep_univ_equiv (step false) (fun c : Dev nD => (dutyTok ER (barC c) 0 true : sProp 𝕄)),
    bigSep_univ_equiv (step false) (fun c : Dev nD => (fam false 0 (fun n => dutyTok ER (recvC false n c) 0 false) : sProp 𝕄)),
    bigSep_univ_equiv (step true) (fun c : Dev nD => (fam true 0 (fun n => dutyTok ER (recvC true n c) 0 false) : sProp 𝕄))]
  exact BI.Entails.refl _

/-! ## The launch -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The ghost state at the launch. -/
abbrev rings₀ : URounds (GSem nD τ sig) Bool := launchOf barCells scCells talkToks
def u₀ : UU :=
  (initOf (Pipeline.cells (Pipeline.pin (pcfgs (F := F)) adm) cellOf_inj) (Pipeline.launchToks (Pipeline.pin (pcfgs (F := F)) adm) cellOf_inj), rings₀)

/-- The rings' ghost state, kept by the first device until all devices' launches meet. -/
def parked (c : Dev nD) : sProp 𝕄 := if c = (0 : Fin 32) then BI.own (ER rings₀) else iprop(emp)

theorem parked_all : bigSep Finset.univ (parked (F := F)) = BI.own (ER rings₀) := by
  have h0 : ∀ c ∈ (Finset.univ : Finset (Dev nD)).erase (0 : Fin 32), parked (F := F) c = (BI.emp : sProp 𝕄) := fun c hc => by
    unfold parked; rw [if_neg (Finset.ne_of_mem_erase hc)]; rfl
  rw [bigSep_univ_at _ (0 : Fin 32), bigSep_congr h0, BI.bigSep_emp_const]
  unfold parked; rw [if_pos rfl]
  exact BI.equiv_iff.mp sep_emp

variable (m : (ℓ : Loc nD τ sig) → Buf (Elt F) ℓ) (ρ : Dev nD → PrngReg)

/-- What a device's first thread state is. -/
abbrev T₀ (c : Dev nD) : sProp 𝕄 := iprop(StableHlo.held (c : Thread nD τ) (Pipeline.ucRefs τ sig) (V₀ m c) ∗ R m c)
/-- and its last. -/
abbrev Tₙ (c : Dev nD) : sProp 𝕄 := iprop(StableHlo.held (c : Thread nD τ) (Pipeline.ucRefs τ sig) (V₂ m c) ∗ semVal (barC c) 0)

/-- A device's part of the protocol, -/
def dealt (c : Dev nD) : sProp 𝕄 :=
  iprop(atPos ER (barC c) 0 ∅ 0 ∗ (bigSep Finset.univ fun k : ScIx => openTok ER ((c : Thread nD τ), osem k)) ∗ dealtToks c)
/-- and the rest it has at the launch. -/
def bundle (c : Dev nD) : sProp 𝕄 :=
  iprop(StableHlo.held (c : Thread nD τ) (Pipeline.ucRefs τ sig) (V₀ m c) ∗ (cred (tallyAt (barC c) () 2) ∗ credsD false c ∗ credsD true c)
    ∗ owes (c : Thread nD τ) (O₀ c) ∅ ∗ ∃ r, prngReg c r)

theorem T₀_intro (κ : GSem nD τ sig → ℕ) (c : Dev nD) : iprop(invs (Xs m) κ ∗ (dealt c ∗ bundle m c)) ⊢ T₀ m c := by
  unfold dealt bundle T₀ R Tk barDeal dealtToks
  iintro ⟨HI, ⟨Hat, Ho, ⟨Hb1, Hb2⟩, Ht1, Ht2⟩, Hh, ⟨Hc, Hc1, Hc2⟩, HO, Hp⟩
  isplitl [Hh]; · iexact Hh
  isplitr [HO Hp]
  · isplitl [HI]; · iexists κ; iexact HI
    isplitl [Ho]; · iexact Ho
    isplitl [Hb1 Hb2 Hat Hc]
    · isplitl [Hb1]; · iexact Hb1
      isplitl [Hb2]; · iexact Hb2
      isplitl [Hat] <;> iassumption
    isplitl [Ht1 Hc1]
    · isplitl [Ht1] <;> iassumption
    isplitl [Ht2] <;> iassumption
  isplitl [Hp]; · iexact Hp
  iexists ∅; iexact HO

theorem unscoped_eq : ∀ sm : SemLoc sig, sm.isScoped .tc = false → sm = .reg barS := by decide +kernel

theorem unscoped_bar (c : Dev nD) : (unscopedSems0 c : sProp 𝕄) = semVal (barC c) 0 := by
  unfold unscopedSems0
  rw [show (Finset.univ.filter fun sm : SemLoc sig => ¬ sm.isScoped .tc) = {SemLoc.reg barS} from by decide +kernel, BI.bigSep_singleton]

/-- All devices' launches together make all first thread states. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ parked c)
      ⊢ (iprop(bundle m c ∗ (semVal (barC c) 0 ∗ parked c)) : sProp 𝕄) := by
    rw [show unscopedBufs c (fun b => m ((c : Thread nD τ).loc b)) = StableHlo.held (c : Thread nD τ) (Pipeline.ucRefs τ sig) (V₀ m c) from
      Pipeline.unscopedBufs_held c (V₀ m c), unscoped_bar]
    unfold bundle
    iintro ⟨Hh, Hus, HO, Hcr, Hp, HG⟩
    ihave Hc := (credits_all (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => (bigSep Finset.univ fun k : ScIx => openTok ER ((c : Thread nD τ), osem k) : sProp 𝕄)) :=
    Entails.of_eq (by rw [bigSep_map, bigSep_univ_prod]; rfl)
  have hsplit : (bigSep Finset.univ fun c : Dev nD => iprop(bundle m c ∗ (semVal (barC c) 0 ∗ parked c)) : sProp 𝕄)
      = iprop(bigSep Finset.univ (bundle m) ∗ (bigSep Finset.univ fun c : Dev nD => semVal (barC c) 0) ∗ bigSep Finset.univ (parked (F := F))) := by
    rw [bigSep_sep', bigSep_sep']
  have hjoin : iprop((bigSep Finset.univ fun c : Dev nD => atPos ER (barC c) 0 ∅ 0)
        ∗ (bigSep Finset.univ fun c : Dev nD => bigSep Finset.univ fun k : ScIx => openTok ER ((c : Thread nD τ), osem k))
        ∗ (bigSep Finset.univ fun c : Dev nD => dealtToks c) ∗ bigSep Finset.univ (bundle m))
      ⊢ (bigSep Finset.univ fun c : Dev nD => iprop(dealt c ∗ bundle m c) : sProp 𝕄) := by
    unfold dealt
    rw [bigSep_sep', bigSep_sep', bigSep_sep']
    iintro ⟨H1, H2, H3, H4⟩
    isplitr [H4]
    · isplitl [H1]; · iexact H1
      isplitl [H2] <;> iassumption
    iexact H4
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ parked c))
      ⊢ (bigSep Finset.univ fun c : Dev nD => iprop(bundle m c ∗ (semVal (barC c) 0 ∗ parked c)) : sProp 𝕄) from bigSep_mono fun c _ => hcore c) $$ H
  ihave H := (Entails.of_eq hsplit) $$ H
  icases H with ⟨HB, Hv, HG⟩
  ihave Hu := (Entails.of_eq (parked_all (F := F))) $$ HG
  imod (Rounds.fund_launch ER (rd (Xs m)) disjoint_cells (fun g _ h => h) talkToks) $$ [Hv Hu] with ⟨%κ, -, #Hinv, #Hr, Hat, Hopen, Htok⟩
  · isplitl [Hv]
    · iapply hv; iexact Hv
    · iexact Hu
  imodintro
  iapply (bigSep_with_persistent (R := invs (Xs m) κ) (Φ := fun c => iprop(dealt c ∗ bundle m c)) fun c _ => T₀_intro m κ c)
  isplitr
  · unfold invs
    isplitr; · iexact Hinv
    iexact Hr
  iapply hjoin
  isplitl [Hat]; · iapply hat; iexact Hat
  isplitl [Hopen]; · iapply hopen; iexact Hopen
  isplitl [Htok]
  · iapply (toks_around (F := F)); iapply (toks_own (F := F)); iexact Htok
  iexact HB

end Cert.KernelIdeal.Ring
-- ==== Proof.Run.lean ====
module
/- The run of the whole program: it ends, the arguments are as they were, each device's result is what its
   kernel leaves, and every counter is zero. -/
public import proofs.«01_k».proof.Proof.Launch
public import proofs.«01_k».proof.Proof.Gen.KernelIdeal.Regions
public import Idealize.ShloMosaic.Lib.Quiescent

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The host's operations before the kernel, on one device. -/
def host (c : Dev nD) : Pipeline.HostSeg (Name := ℕ) (U := UU) (pcfgs (F := F)) defs₀ 𝒱₀ L lv :=
  Pipeline.HostSeg.ofOps _ _ _ _ _ (Pipeline.ucRefs τ sig) (hostOps0 c)
    (fun op h => Pipeline.sub_ucRefs op (List.forall_iff_forall_mem.mp (hostOps0_sub c) op h))
    (fun op h => List.forall_iff_forall_mem.mp (hostOps0_fresh c) op h) (V₀ m) (R m)

/-- The program of a device: the host's operations, then the kernel. -/
def segs (c : Dev nD) : List (Pipeline.Seg (pcfgs (F := F)) adm (pdats m) () defs₀ 𝒱₀ L lv) :=
  [.host (host m c), .region (reg m)]

theorem main_segs (c : Dev nD) : main (F := F) c = Pipeline.Seg.run (segs m c) := by
  rw [main_chain c, Pipeline.chain_cons]
  rfl

theorem V₂_arg0 (c : Dev nD) : V₂ m c (Proc.devRef .tc main_arg0) = m ((c : Thread nD τ).loc main_arg0) :=
  (V₂_ne m c (by decide : main_arg0 ≠ main_v16)).trans (V₁_arg0 m c)
theorem V₂_arg1 (c : Dev nD) : V₂ m c (Proc.devRef .tc main_arg1) = m ((c : Thread nD τ).loc main_arg1) :=
  (V₂_ne m c (by decide : main_arg1 ≠ main_v16)).trans (V₁_arg1 m c)
theorem V₂_arg2 (c : Dev nD) : V₂ m c (Proc.devRef .tc main_arg2) = m ((c : Thread nD τ).loc main_arg2) :=
  (V₂_ne m c (by decide : main_arg2 ≠ main_v16)).trans (V₁_arg2 m c)
theorem V₂_arg3 (c : Dev nD) : V₂ m c (Proc.devRef .tc main_arg3) = m ((c : Thread nD τ).loc main_arg3) :=
  (V₂_ne m c (by decide : main_arg3 ≠ main_v16)).trans (V₁_arg3 m c)

/-- A device's last state, read off the memory. -/
theorem read_last (c : Dev nD) (s' : Phys nD τ sig (Elt F)) :
    iprop(Tₙ m c ∗ SI s') ⊢ (|={Set.univ}=> iprop(⌜(∀ b ∈ Pipeline.ucRefs τ sig, s'.mem.mem (c, b) = V₂ m c b) ∧ s'.mem.sem (barC c) = 0⌝ ∗ SI s') : sProp 𝕄) := by
  have h : iprop(SI s' ∗ StableHlo.held (c : Thread nD τ) (Pipeline.ucRefs τ sig) (V₂ m c))
      ⊢ (⌜∀ b ∈ Pipeline.ucRefs τ sig, s'.mem.mem (c, b) = V₂ m c b⌝ : sProp 𝕄) :=
    SI_pointsTo_bufs_agree (qs := fun _ => fullShare) (Pipeline.ucRefs τ sig)
  iintro ⟨⟨Hh, Hb⟩, HSI⟩
  icombine HSI Hb gives %hb
  ihave %hh := h $$ [HSI Hh]
  · isplitl [HSI] <;> iassumption
  imodintro
  isplitr
  · ipureintro; exact ⟨hh, by simpa using hb⟩
  iexact HSI

theorem uc (b : Ref sig .tc) (h : b.isScoped = false) : Proc.devRef (τ := τ) .tc b ∈ Pipeline.ucRefs τ sig :=
  Finset.mem_filter.mpr ⟨StableHlo.devRef_mem_tcRefs _, fun h' => Bool.false_ne_true (h.symm.trans h')⟩

set_option backward.isDefEq.respectTransparency.types false in
/-- The run. -/
theorem run_main : θ_run defs (onTc (τ := τ) (main (F := F))) ⟨m, fun _ => 0, ρ⟩
    (fun r => (∀ c : Dev nD, r.2.mem ((c : Thread nD τ).loc main_v16) = res m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  Pipeline.θ_run_regions_kit_dev_sems (pcfgs (F := F)) adm (pdats m) () cellOf_inj EP defs₀ 𝒱₀ L lv m ρ main (segs m)
    (fun c Q => by rw [main_segs m c])
    (fun c => by simp only [segs, Pipeline.Seg.pipes_host, Pipeline.Seg.pipes_region, Pipeline.Seg.pipes_nil]; decide)
    (O₀ := O₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := T₀ m) (Tₙ := Tₙ m)
    (hch := fun c => ⟨.rfl, reg_pre m c, reg_post m c⟩)
    (hinit := init m ρ)
    (QY := fun c s => (∀ b ∈ Pipeline.ucRefs τ sig, s.mem (c, b) = V₂ m c b) ∧ s.sem (barC c) = 0)
    (hfin := fun c s' => read_last m c s')
    (hQ := fun s h hs => ⟨fun c => by
        obtain ⟨hb, -⟩ := h c
        exact ⟨(hb _ (uc main_v16 rfl)).trans (V₂_res m c), (hb _ (uc main_arg0 rfl)).trans (V₂_arg0 m c),
          (hb _ (uc main_arg1 rfl)).trans (V₂_arg1 m c), (hb _ (uc main_arg2 rfl)).trans (V₂_arg2 m c),
          (hb _ (uc main_arg3 rfl)).trans (V₂_arg3 m c)⟩,
      sem_eq_zero hs fun c sm hsm => by
        obtain rfl := unscoped_eq sm hsm
        exact (h c).2⟩)

/-- The program runs, its arguments end unchanged, and every counter ends at zero. -/
theorem frame_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)) ∧ r.2.sem = fun _ => 0) :=
  (θ_run defs _ _).mono (fun _ h => ⟨fun c => (h.1 c).2, h.2⟩) (run_main m ρ)

end Cert.KernelIdeal.Ring
-- ==== Proof.Frames.lean ====
module
/- The frames: each program runs, leaves its arguments as they were, and every counter ends at zero. -/
public import proofs.«01_k».proof.Proof.Same
public import proofs.«01_k».proof.Proof.Run
public import proofs.«01_k».proof.Proof.Gen.ReferenceIdeal.Frame

@[expose] public section

noncomputable section

namespace Cert.Proof

open Idealize.ShloMosaic Idealize.ShloMosaic.TcCoe Idealize.SL.Sem

/-- The frame of the program as compiled. -/
theorem frame_kernel : Cert.quiescent_Kernel := fun m ρ _ =>
  run_same (F := Bits) ⟨m, fun _ => 0, ρ⟩ _ (Cert.KernelIdeal.Ring.frame_main (F := Bits) m ρ)

/-- The frame of the program over the ideal floats. -/
theorem frame_ideal : Cert.quiescent_KernelIdeal := fun m ρ _ => Cert.KernelIdeal.Ring.frame_main (F := Ideal) m ρ

/-- The frame of the reference. -/
theorem frame_reference : Cert.quiescent_ReferenceIdeal := fun m ρ _ => Cert.ReferenceIdeal.Gen.frame m ρ

end Cert.Proof
-- ==== Proof.Sums.lean ====
module
/- The payloads over the ideal floats, index by index: a row of the one operand against a column of the
   other, times the scale. -/
public import proofs.«01_k».proof.Proof.Gen.KernelIdeal.Skeleton
public import proofs.«01_k».proof.Proof.Gen.ReferenceIdeal.Skeleton
public import Idealize.ShloMosaic.Lib.Pointwise

@[expose] public section

noncomputable section

namespace Cert.Proof

open Idealize.ShloMosaic
open scoped BigOperators

section Kernel
open Cert.KernelIdeal Cert.KernelIdeal.Gen

theorem pay_scale (a b : Elt Ideal .f32) : k0_pay2 (F := Ideal) a b = (a * b : EReal) := rfl

theorem pay_weights (w : Vec Ideal S4096x64 .fp8e5m2) (k : Fin 4096) (l : Fin 64) :
    k0_pay3 (F := Ideal) w (ix2 k l) = w (ix2 k l) := by
  pointwise [k0_pay3]

theorem pay_own (s : Elt Ideal .f32) (x : Vec Ideal S128x4096 .fp8e4m3) (w : Vec Ideal S4096x64 .bf16) (r : Fin 128) (l : Fin 64) :
    k0_pay4 (F := Ideal) s x w (ix2 r l) = (((∑ k : Fin 4096, x (ix2 r k) * w (ix2 k l)) * s : EReal)) := by
  pointwise [k0_pay4]

theorem pay_hop (s : Elt Ideal .f32) (x : Vec Ideal S128x4096 .fp8e4m3) (w : Vec Ideal S4096x64 .bf16) (r : Fin 128) (l : Fin 64) :
    k0_pay5 (F := Ideal) s x w (ix2 r l) = (((∑ k : Fin 4096, x (ix2 r k) * w (ix2 k l)) * s : EReal)) := by
  pointwise [k0_pay5]

theorem pay_half (s : Elt Ideal .f32) (x : Vec Ideal S64x4096 .fp8e4m3) (w : Vec Ideal S4096x64 .bf16) (r : Fin 64) (l : Fin 64) :
    k0_pay38 (F := Ideal) s x w (ix2 r l) = (((∑ k : Fin 4096, x (ix2 r k) * w (ix2 k l)) * s : EReal)) := by
  pointwise [k0_pay38]

end Kernel

section Reference
open Cert.ReferenceIdeal Cert.ReferenceIdeal.Gen

theorem pay_ref (x : Vec Ideal S4096x4096 .fp8e4m3) (w : Vec Ideal S4096x2048 .fp8e5m2) (a b : Elt Ideal .f32) (r : Fin 4096) (l : Fin 2048) :
    k0_pay1 (F := Ideal) x w a b (ix2 r l) = (((∑ k : Fin 4096, x (ix2 r k) * w (ix2 k l)) * (a * b) : EReal)) := by
  pointwise [k0_pay1]

end Reference

end Cert.Proof
-- ==== Proof.RefValue.lean ====
module
/- The reference's result: its one product, times the two scales. -/
public import proofs.«01_k».proof.Proof.Gen.ReferenceIdeal.Value
public import Idealize.ShloMosaic.Lib.Pipeline.Value
public import Idealize.ShloMosaic.Lib.ValueIdx

@[expose] public section

set_option maxRecDepth 16384

noncomputable section

namespace Cert.ReferenceIdeal.Closed

open Cert.ReferenceIdeal Cert.ReferenceIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ) (ρ : Dev nD → PrngReg)

theorem zero_offs : (![0, 0] : Fin 2 → Nat) = fun _ => 0 := funext fun a => by fin_cases a <;> rfl

theorem zero_off : (![0] : Fin 1 → Nat) = fun _ => 0 := funext fun a => by fin_cases a; rfl
theorem only_idx (i : S1.Idx) : i = ix1 0 := funext fun a => by
  fin_cases a
  exact Fin.ext (Nat.lt_one_iff.mp (i 0).isLt)

/-- What the body leaves in the result, of what its four inputs hold. -/
theorem out_eq (c : Dev nD) (a0 : Memref sig .tc .vmem S4096x4096 .fp8e4m3) (h0 : a0.IsWhole) (a1 : Memref sig .tc .vmem S4096x2048 .fp8e5m2) (h1 : a1.IsWhole)
    (a2 : Memref sig .tc .smem S1 .f32) (h2 : a2.IsWhole) (a3 : Memref sig .tc .smem S1 .f32) (h3 : a3.IsWhole) (a4 : Memref sig .tc .vmem S4096x2048 .f32) (h4 : a4.IsWhole)
    (x0 : Vec F S4096x4096 .fp8e4m3) (x1 : Vec F S4096x2048 .fp8e5m2) (x2 : Vec F S1 .f32) (x3 : Vec F S1 .f32) :
    out0_A_4 c a0 h0 a1 h1 a2 h2 a3 h3 a4 h4 x0 x1 x2 x3 = k0_pay1 x0 x1 (x2 (ix1 0)) (x3 (ix1 0)) := by
  unfold out0_A_4
  rw [View.read_writes_eq_canon _ _ _ (cover0_A_4 c a0 h0 a1 h1 a2 h2 a3 h3 a4 h4 x0 x1 x2 x3)]
  unfold kernelRun0_A
  dsimp only
  rw [View.canon_unit_zero zero_offs]
  simp only [View.readAt_eq_ld, h0.read_unread, h1.read_unread, View.ld_unit_zero (S := S4096x4096) zero_offs, View.ld_unit_zero (S := S4096x2048) zero_offs]
  congr 1
  · sl_unfold_words
    rw [View.readAt_eq_ld, h2.read_unread, View.ld_unit_zero (S := S1) zero_off]
    exact congrArg x2 (only_idx _)
  · sl_unfold_words
    rw [View.readAt_eq_ld, h3.read_unread, View.ld_unit_zero (S := S1) zero_off]
    exact congrArg x3 (only_idx _)

/-- A window is its whole array, so what is staged is the argument. -/
theorem blk0 (f : (main_arg0 : Ref sig .tc).ty.Contents (Elt F)) : (win0_0.blk t0_0).view.read (Elt F) f = f :=
  Memref.read_access_unit_zero (Elt F) main_arg0 (funext fun a => Nat.zero_mul _) _ f
theorem blk1 (f : (main_arg1 : Ref sig .tc).ty.Contents (Elt F)) : (win0_1.blk t0_0).view.read (Elt F) f = f :=
  Memref.read_access_unit_zero (Elt F) main_arg1 (funext fun a => Nat.zero_mul _) _ f
theorem blk2 (f : (main_arg2 : Ref sig .tc).ty.Contents (Elt F)) : (win0_2.blk t0_0).view.read (Elt F) f = f :=
  Memref.read_access_unit_zero (Elt F) main_arg2 (funext fun a => Nat.zero_mul _) _ f
theorem blk3 (f : (main_arg3 : Ref sig .tc).ty.Contents (Elt F)) : (win0_3.blk t0_0).view.read (Elt F) f = f :=
  Memref.read_access_unit_zero (Elt F) main_arg3 (funext fun a => Nat.zero_mul _) _ f
theorem blk4 (f : (main_v0 : Ref sig .tc).ty.Contents (Elt F)) : (win0_4.blk t0_0).view.read (Elt F) f = f :=
  Memref.read_access_unit_zero (Elt F) main_v0 (funext fun a => Nat.zero_mul _) _ f

/-- The result, of the four arguments. -/
def out (c : Dev nD) : S4096x2048.Idx → Elt F .f32 :=
  k0_pay1 (m ((c : Thread nD τ).loc main_arg0)) (m ((c : Thread nD τ).loc main_arg1))
    ((m ((c : Thread nD τ).loc main_arg2) : S1.Idx → Elt F .f32) (ix1 0)) ((m ((c : Thread nD τ).loc main_arg3) : S1.Idx → Elt F .f32) (ix1 0))

/-- The one point leaves it, -/
theorem outs_eq (c : Dev nD) : outsAt0 m c t0_0 = out m c := by
  have e0 : iblk m c 0 t0_0 = m ((c : Thread nD τ).loc main_arg0) := blk0 (m ((c : Thread nD τ).loc main_arg0))
  have e1 : iblk m c 1 t0_0 = m ((c : Thread nD τ).loc main_arg1) := blk1 (m ((c : Thread nD τ).loc main_arg1))
  have e2 : iblk m c 2 t0_0 = m ((c : Thread nD τ).loc main_arg2) := blk2 (m ((c : Thread nD τ).loc main_arg2))
  have e3 : iblk m c 3 t0_0 = m ((c : Thread nD τ).loc main_arg3) := blk3 (m ((c : Thread nD τ).loc main_arg3))
  unfold outsAt0
  rw [out_eq, e0, e1, e2, e3]
  rfl

/-- so the result's array holds it at the end. -/
theorem final (c : Dev nD) : (dats m 0 c).arrAt 4 cfg0.N = out m c := by
  have h := Value.blocks4 m c t0_0 (flush0_4 t0_0)
  rw [Value.flushed4, outs_eq] at h
  exact (blk4 _).symm.trans h

/-- The reference's run: the result, and the arguments unchanged. -/
theorem run : θ_run defs (onTc (τ := τ) (main (F := F))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.ReferenceIdeal.Closed
-- ==== Proof.Value.lean ====
module
/- The value: over the ideal floats each device's result is its block of the reference's. Row `r` of the
   gathered operand is row `r % 128` of device `r / 128`'s block, and whichever product wrote it the sum is
   the same one. -/
public import proofs.«01_k».proof.Proof.Frames
public import proofs.«01_k».proof.Proof.Sums
public import proofs.«01_k».proof.Proof.RefValue
public import Idealize.ShloMosaic.Lib.Layout

@[expose] public section

noncomputable section

namespace Cert.Proof

open Idealize.ShloMosaic Idealize.ShloMosaic.TcCoe Idealize.SL.Sem
open scoped BigOperators

section Kernel
open Cert.KernelIdeal Cert.KernelIdeal.Gen Cert.KernelIdeal.Ring

/-- An element of the result: the sum over the contracted axis, times the scale. -/
theorem G_sum (X : Dev nD → S128x4096.Idx → Elt Ideal .fp8e4m3) (wb : S4096x64.Idx → Elt Ideal .bf16) (sc : Elt Ideal .f32) (c : Dev nD)
    (i : S4096x64.Idx) : G (F := Ideal) X wb sc c i
      = ((∑ k : Fin 4096, X (rowDev i) (ix2 ⟨(i 0).val % 128, Nat.mod_lt _ (by decide)⟩ k) * wb (ix2 k (i 1))) * sc : EReal) := by
  unfold G
  split
  · next h => rw [← h]; exact pay_own sc _ wb _ _
  · split
    · refine (pay_half sc _ wb _ _).trans ?_
      refine congrArg (fun s : EReal => s * sc) (Finset.sum_congr rfl fun k _ => ?_)
      refine congrArg (fun e : EReal => e * wb (ix2 k (i 1))) (congrArg (X (rowDev i)) ?_)
      funext a
      fin_cases a
      · refine Fin.ext ?_
        show 64 * ((i 0).val % 128 / 64) + (i 0).val % 64 = (i 0).val % 128
        omega
      · rfl
    · exact pay_hop sc _ wb _ _

end Kernel

/-- Each device's result is its block of the reference's. -/
theorem res_block (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : ∀ d : Dev Cert.KernelIdeal.nD, Cert.KernelIdeal.Ring.Xs m d = Layout.block ⟨2, ![128, 4096]⟩ ⟨2, ![4096, 4096]⟩ 0 32 d (m' (((0 : Dev Cert.ReferenceIdeal.nD).tc : Thread Cert.ReferenceIdeal.nD Cert.ReferenceIdeal.τ).loc Cert.ReferenceIdeal.main_arg0)))
    (h1 : Cert.KernelIdeal.Ring.w8 m c = Layout.block ⟨2, ![4096, 64]⟩ ⟨2, ![4096, 2048]⟩ 1 32 c (m' (((0 : Dev Cert.ReferenceIdeal.nD).tc : Thread Cert.ReferenceIdeal.nD Cert.ReferenceIdeal.τ).loc Cert.ReferenceIdeal.main_arg1)))
    (h2 : Cert.KernelIdeal.Ring.s2 m c = m' (((0 : Dev Cert.ReferenceIdeal.nD).tc : Thread Cert.ReferenceIdeal.nD Cert.ReferenceIdeal.τ).loc Cert.ReferenceIdeal.main_arg2))
    (h3 : Cert.KernelIdeal.Ring.s3 m c = m' (((0 : Dev Cert.ReferenceIdeal.nD).tc : Thread Cert.ReferenceIdeal.nD Cert.ReferenceIdeal.τ).loc Cert.ReferenceIdeal.main_arg3)) :
    Cert.KernelIdeal.Ring.res m c = Layout.block ⟨2, ![4096, 64]⟩ ⟨2, ![4096, 2048]⟩ 1 32 c (Cert.ReferenceIdeal.Closed.out m' 0) := by
  funext i
  have hi : (i 0).val < 4096 := (i 0).isLt
  unfold Cert.KernelIdeal.Ring.res Cert.ReferenceIdeal.Closed.out
  rw [Layout.block_apply, eq_ix2 (Layout.Tiles.idx _ c i)]
  refine (G_sum _ _ _ c i).trans (Eq.trans ?_ (pay_ref _ _ _ _ _ _).symm)
  refine congrArg₂ (fun a b : EReal => a * b) (Finset.sum_congr rfl fun k _ => ?_) ?_
  swap
  · rw [h2, h3]; rfl
  refine congrArg₂ (fun a b : EReal => a * b) ((congrFun (h0 _) _).trans (congrArg (α := (⟨2, ![4096, 4096]⟩ : Shape).Idx)
      (m' (((0 : Dev Cert.ReferenceIdeal.nD).tc : Thread Cert.ReferenceIdeal.nD Cert.ReferenceIdeal.τ).loc Cert.ReferenceIdeal.main_arg0)) ?_))
    ((pay_weights _ _ _).trans ((congrFun h1 _).trans (congrArg (α := (⟨2, ![4096, 2048]⟩ : Shape).Idx)
      (m' (((0 : Dev Cert.ReferenceIdeal.nD).tc : Thread Cert.ReferenceIdeal.nD Cert.ReferenceIdeal.τ).loc Cert.ReferenceIdeal.main_arg1)) ?_)))
  · funext a
    fin_cases a
    · refine Fin.ext ?_
      show (i 0).val / 128 * 128 + (i 0).val % 128 = (i 0).val
      omega
    · rfl
  · funext a
    fin_cases a <;> rfl

/-- Over the ideal floats the program leaves the reference's result, each device its block. -/
theorem algebraic : Cert.algebraic_KernelIdeal_ReferenceIdeal := fun m ρ m' ρ' _ hm =>
  ⟨Cert.ReferenceIdeal.Closed.out m' 0,
    (θ_run Cert.KernelIdeal.defs _ _).mono
      (fun _ h c => ⟨(h.1 c).1.trans (res_block m m' c (fun d => (hm d).1) (hm c).2.1 (hm c).2.2.1 (hm c).2.2.2), (h.1 c).2⟩)
      (Cert.KernelIdeal.Ring.run_main (F := Ideal) m ρ),
    (θ_run Cert.ReferenceIdeal.defs _ _).mono (fun _ h => h 0) (Cert.ReferenceIdeal.Closed.run (F := Ideal) m' ρ')⟩

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts,
    frame_kernel, frame_ideal, frame_reference, trivial, algebraic⟩

end Cert.Proof

end
